-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 6144]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1536, 768]⟩ ⟨2, ![6144, 768]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x768 : Shape := ⟨2, ![768, 768]⟩
abbrev S768x1536 : Shape := ⟨2, ![768, 1536]⟩
abbrev S1536x768 : Shape := ⟨2, ![1536, 768]⟩
abbrev S6x2x160x768 : Shape := ⟨4, ![6, 2, 160, 768]⟩
abbrev S6x2 : Shape := ⟨2, ![6, 2]⟩
abbrev S_ : Shape := ⟨0, ![]⟩
abbrev S160x768 : Shape := ⟨2, ![160, 768]⟩
abbrev S160x1536 : Shape := ⟨2, ![160, 1536]⟩
abbrev S1x1x160x768 : Shape := ⟨4, ![1, 1, 160, 768]⟩
abbrev S1x1 : Shape := ⟨2, ![1, 1]⟩
abbrev S96x768 : Shape := ⟨2, ![96, 768]⟩
abbrev S96x1536 : Shape := ⟨2, ![96, 1536]⟩
abbrev S1x1x96x768 : Shape := ⟨4, ![1, 1, 96, 768]⟩
abbrev S32x768 : Shape := ⟨2, ![32, 768]⟩
abbrev S32x1536 : Shape := ⟨2, ![32, 1536]⟩
abbrev S1x1x32x768 : Shape := ⟨4, ![1, 1, 32, 768]⟩

abbrev nBuf : Space → Nat
  | .hbm => 4
  | .vmem => 6
  | .smem => 0
  | _ => 0

abbrev bufTy : (tb : Table) → Fin (tcTables nBuf tb) → BufTy
  | .hbm, ⟨0, _⟩ => ⟨S768x768, .bf16⟩
  | .hbm, ⟨1, _⟩ => ⟨S768x1536, .bf16⟩
  | .hbm, ⟨2, _⟩ => ⟨S1536x768, .bf16⟩
  | .hbm, ⟨3, _⟩ => ⟨S768x768, .f32⟩
  | .local _ .vmem, ⟨0, _⟩ => ⟨S768x768, .bf16⟩
  | .local _ .vmem, ⟨1, _⟩ => ⟨S768x1536, .bf16⟩
  | .local _ .vmem, ⟨2, _⟩ => ⟨S1536x768, .bf16⟩
  | .local _ .vmem, ⟨3, _⟩ => ⟨S768x768, .f32⟩
  | .local _ .vmem, ⟨4, _⟩ => ⟨S6x2x160x768, .bf16⟩
  | .local _ .vmem, ⟨5, _⟩ => ⟨S6x2x160x768, .bf16⟩
  | _, _ => ⟨S768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_32 : BitVec 32 := 1#32
  let v36 : BitVec 32 := Scalar.muli v3 c1_i32_32
  let v37 : BitVec 32 := Scalar.addi c0_i32_33 v36
  v37.toNat
def k0_dev4 (d0 : Dev nD) : Nat :=
  let c0_i32_47 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_46 : BitVec 32 := 1#32
  let v46 : BitVec 32 := Scalar.muli v4 c1_i32_46
  let v47 : BitVec 32 := Scalar.addi c0_i32_47 v46
  v47.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_67 : BitVec 32 := 1#32
  let v67 : BitVec 32 := Scalar.muli v3 c1_i32_67
  let v68 : BitVec 32 := Scalar.addi c0_i32_68 v67
  v68.toNat
def k0_dev6 (d0 : Dev nD) : Nat :=
  let c0_i32_89 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_88 : BitVec 32 := 1#32
  let v88 : BitVec 32 := Scalar.muli v4 c1_i32_88
  let v89 : BitVec 32 := Scalar.addi c0_i32_89 v88
  v89.toNat
def k0_dev7 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_109 : BitVec 32 := 1#32
  let v109 : BitVec 32 := Scalar.muli v3 c1_i32_109
  let v110 : BitVec 32 := Scalar.addi c0_i32_110 v109
  v110.toNat
def k0_dev8 (d0 : Dev nD) : Nat :=
  let c0_i32_146 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_145 : BitVec 32 := 1#32
  let v135 : BitVec 32 := Scalar.muli v4 c1_i32_145
  let v136 : BitVec 32 := Scalar.addi c0_i32_146 v135
  v136.toNat
def k0_dev9 (d0 : Dev nD) : Nat :=
  let c0_i32_166 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_165 : BitVec 32 := 1#32
  let v156 : BitVec 32 := Scalar.muli v4 c1_i32_165
  let v157 : BitVec 32 := Scalar.addi c0_i32_166 v156
  v157.toNat
def k0_dev10 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_201 : BitVec 32 := 1#32
  let v182 : BitVec 32 := Scalar.muli v3 c1_i32_201
  let v183 : BitVec 32 := Scalar.addi c0_i32_202 v182
  v183.toNat
def k0_dev11 (d0 : Dev nD) : Nat :=
  let c0_i32_238 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_237 : BitVec 32 := 1#32
  let v208 : BitVec 32 := Scalar.muli v4 c1_i32_237
  let v209 : BitVec 32 := Scalar.addi c0_i32_238 v208
  v209.toNat
def k0_dev12 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_273 : BitVec 32 := 1#32
  let v234 : BitVec 32 := Scalar.muli v3 c1_i32_273
  let v235 : BitVec 32 := Scalar.addi c0_i32_274 v234
  v235.toNat
def k0_dev13 (d0 : Dev nD) : Nat :=
  let c0_i32_310 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_309 : BitVec 32 := 1#32
  let v260 : BitVec 32 := Scalar.muli v4 c1_i32_309
  let v261 : BitVec 32 := Scalar.addi c0_i32_310 v260
  v261.toNat
def k0_dev14 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_345 : BitVec 32 := 1#32
  let v286 : BitVec 32 := Scalar.muli v3 c1_i32_345
  let v287 : BitVec 32 := Scalar.addi c0_i32_346 v286
  v287.toNat
abbrev stage0_0 : Fin 1 → Memref sig .tc .vmem S768x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S768x768 : Shape := ⟨2, ![768, 768]⟩
abbrev S768x6144 : Shape := ⟨2, ![768, 6144]⟩
abbrev S6144x768 : Shape := ⟨2, ![6144, 768]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S768x768, .bf16⟩
  | .hbm, ⟨1, _⟩ => ⟨S768x6144, .bf16⟩
  | .hbm, ⟨2, _⟩ => ⟨S6144x768, .bf16⟩
  | .hbm, ⟨3, _⟩ => ⟨S768x6144, .f32⟩
  | .hbm, ⟨4, _⟩ => ⟨S768x6144, .bf16⟩
  | .hbm, ⟨5, _⟩ => ⟨S_, .bf16⟩
  | .hbm, ⟨6, _⟩ => ⟨S768x6144, .bf16⟩
  | .hbm, ⟨7, _⟩ => ⟨S768x6144, .bf16⟩
  | .hbm, ⟨8, _⟩ => ⟨S768x768, .f32⟩
  | .hbm, ⟨9, _⟩ => ⟨S768x768, .bf16⟩
  | .hbm, ⟨10, _⟩ => ⟨S768x768, .f32⟩
  | _, _ => ⟨S768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Common.lean ====
/-
  The exchange that the kernel runs, described once for all twelve messages of a device.

  Four devices each hold one quarter of the weights.  Every device computes its own partial product in six row
  chunks, and the partial products are summed in two stages: in stage 0 a chunk goes to one partner, in stage 1 the
  sum of the two goes to the other.  A message is therefore named by a chunk and a stage (`Slot`), and the same pair
  names the piece of the send buffer it leaves from, the piece of the receive buffer it lands in, and its two
  counters.  This module names these things, says what every message carries, and lays down which party raises which
  counter and with what.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Writes
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Who talks to whom -/

/-- The two partners of a device: `false` is the one whose number differs in the last bit, `true` the one whose
    number is the mirror image. -/
def peer (b : Bool) (c : Dev nD) : Dev nD :=
  if b then ⟨3 - c.val, by revert c; decide⟩ else ⟨c.val ^^^ 1, by revert c; decide⟩

/-- Both relations are symmetric. -/
theorem peer_peer (b : Bool) (c : Dev nD) : peer b (peer b c) = c := by revert b c; decide

/-- The two partners of one device are different devices. -/
theorem peer_ne (c : Dev nD) : peer false c ≠ peer true c := by revert c; decide

/-- A partner relation as a permutation of the devices. -/
def peerEquiv (b : Bool) : Dev nD ≃ Dev nD := ⟨peer b, peer b, peer_peer b, peer_peer b⟩

theorem eq_peer_comm {b : Bool} {c d : Dev nD} : Iff (d = peer b c) (c = peer b d) :=
  ⟨fun h => by rw [h, peer_peer], fun h => by rw [h, peer_peer]⟩

/-! ## Messages -/

/-- A message: its row chunk and its stage. -/
abbrev Slot : Type := Fin 6 × Fin 2

/-- Which of the two partners a message goes to (and comes from): even chunks start with the first partner, odd ones
    with the second, and stage 1 is the other one. -/
abbrev side (k : Slot) : Bool := (k.1.val + k.2.val) % 2 == 1

/-- The number of rows of each chunk. -/
abbrev rows : Fin 6 → ℕ := ![160, 160, 160, 160, 96, 32]

theorem slot_inb (k : Slot) : ∀ a, (![k.1.val, k.2.val, 0, 0] : Fin 4 → ℕ) a + (![1, 1, rows k.1, 768] : Fin 4 → ℕ) a ≤ S6x2x160x768.size a := by
  revert k; decide

/-- The piece of the send or receive buffer that a message occupies. -/
abbrev slotRect (k : Slot) : Rect S6x2x160x768 :=
  Rect.unit (s := S6x2x160x768) ![k.1.val, k.2.val, 0, 0] ![1, 1, rows k.1, 768] (slot_inb k)

/-- Two different messages occupy disjoint pieces. -/
theorem slot_disjoint (k k' : Slot) (h : k ≠ k') : Disjoint (slotRect k).set (slotRect k').set := by
  rw [Finset.disjoint_left]
  intro i hi hi'
  rw [LoadRect.mem_set] at hi hi'
  have h0 := hi 0; have h1 := hi 1; have h0' := hi' 0; have h1' := hi' 1
  obtain ⟨j0, hj0, e0⟩ := h0; obtain ⟨j1, hj1, e1⟩ := h1
  obtain ⟨j0', hj0', e0'⟩ := h0'; obtain ⟨j1', hj1', e1'⟩ := h1'
  change j0 < 1 at hj0; change j1 < 1 at hj1; change j0' < 1 at hj0'; change j1' < 1 at hj1'
  change (i 0).val = k.1.val + 1 * j0 at e0; change (i 1).val = k.2.val + 1 * j1 at e1
  change (i 0).val = k'.1.val + 1 * j0' at e0'; change (i 1).val = k'.2.val + 1 * j1' at e1'
  exact h (Prod.ext (Fin.ext (by omega)) (Fin.ext (by omega)))

/-! ## Buffers and counters -/

/-- The staging buffers of the three operands and of the result, and the send and receive buffers. -/
abbrev xM : Memref sig .tc .vmem S768x768 .bf16 := Memref.whole cc0_stg0_0
abbrev aM : Memref sig .tc .vmem S768x1536 .bf16 := Memref.whole cc0_stg1_0
abbrev bM : Memref sig .tc .vmem S1536x768 .bf16 := Memref.whole cc0_stg2_0
abbrev oM : Memref sig .tc .vmem S768x768 .f32 := Memref.whole cc0_stg3_0
abbrev sM : Memref sig .tc .vmem S6x2x160x768 .bf16 := Memref.whole cc0_scratch0
abbrev rM : Memref sig .tc .vmem S6x2x160x768 .bf16 := Memref.whole cc0_scratch1

theorem sem_inb (k : Slot) : ∀ a, (![k.1.val, k.2.val] : Fin 2 → ℕ) a + S1x1.size a ≤ S6x2.size a := by revert k; decide

/-- A message's two counters on a device: `false` its departure, `true` its arrival. -/
abbrev slotSem (x : Bool) (k : Slot) : DmaSem sig :=
  (((if x then cc0_scratch3 else cc0_scratch2).slice (Rect.unit (s := S6x2) ![k.1.val, k.2.val] S1x1.size (sem_inb k))).squeeze S_ squeezes_S1x1_S_).sem

theorem slotSem_val (x : Bool) (k : Slot) : (slotSem x k).val = (if x then 16 else 4) + (2 * k.1.val + k.2.val) := by
  revert x k; decide +kernel

theorem slotSem_inj {x x' : Bool} {k k' : Slot} (h : slotSem x k = slotSem x' k') : (x, k) = (x', k') := by
  have hv := congrArg Fin.val h
  rw [slotSem_val, slotSem_val] at hv
  obtain ⟨⟨a, ha⟩, ⟨b, hb⟩⟩ := k
  obtain ⟨⟨a', ha'⟩, ⟨b', hb'⟩⟩ := k'
  cases x <;> cases x' <;> simp only [Bool.false_eq_true, if_true, if_false] at hv <;>
    simp only [Prod.mk.injEq, Fin.mk.injEq, true_and, reduceCtorEq, false_and] <;> omega

/-- The barrier counter that all four devices share a number for. -/
abbrev barS : Sem sig := (SemArray.scalar (sig.barrier 0 rfl) : Sems sig S_).sem

/-- The counters the exchange uses on one device: the barrier's (`none`) and the twenty-four of the messages. -/
abbrev CellIx : Type := Option (Bool × Slot)
abbrev osem (xk : Bool × Slot) : SemLoc sig := .dma (slotSem xk.1 xk.2)
abbrev csem : CellIx → SemLoc sig := fun | none => .reg barS | some xk => osem xk
abbrev cell (c : Dev nD) (i : CellIx) : GSem nD τ sig := ((c : Thread nD τ), csem i)

abbrev barCell (c : Dev nD) : GSem nD τ sig := cell c none
abbrev sendCell (c : Dev nD) (k : Slot) : GSem nD τ sig := cell c (some (false, k))
abbrev recvCell (c : Dev nD) (k : Slot) : GSem nD τ sig := cell c (some (true, k))

theorem csem_inj : Function.Injective csem := by
  intro i j h
  rcases i with _ | ⟨x, k⟩ <;> rcases j with _ | ⟨x', k'⟩
  · rfl
  · cases h
  · cases h
  · exact congrArg some (slotSem_inj (SemLoc.dma.inj h))

theorem cell_inj {c d : Dev nD} {i j : CellIx} (h : cell c i = cell d j) : c = d ∧ i = j :=
  ⟨congrArg (fun g : GSem nD τ sig => g.1.1) h, csem_inj (congrArg Prod.snd h)⟩

/-- Which of the exchange's counters a counter is, if any. -/
def ixOf (s : SemLoc sig) : Option CellIx := if h : ∃ i, csem i = s then some h.choose else none

theorem ixOf_csem (i : CellIx) : ixOf (csem i) = some i := by
  have h : ∃ j, csem j = csem i := ⟨i, rfl⟩
  unfold ixOf; rw [dif_pos h, csem_inj h.choose_spec]

/-! ## The ghost state's type -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at the start: any contents, all counters zero. -/
def s₀ : MemSt nD τ sig (Elt F) := ⟨m, fun _ => 0, ρ⟩

/-! ## What the buffers hold -/

/-- Device `c`'s three operands as they stand in its staging buffers. -/
def xAt (c : Dev nD) : (cc0_stg0_0 : Ref sig .tc).ty.Contents (Elt F) :=
  (win0_0.blk (0 : Fin 1)).view.read (Elt F) (m ((c : Thread nD τ).loc main_arg0))
def aAt (c : Dev nD) : (cc0_stg1_0 : Ref sig .tc).ty.Contents (Elt F) :=
  (win0_1.blk (0 : Fin 1)).view.read (Elt F) (m ((c : Thread nD τ).loc main_arg1))
def bAt (c : Dev nD) : (cc0_stg2_0 : Ref sig .tc).ty.Contents (Elt F) :=
  (win0_2.blk (0 : Fin 1)).view.read (Elt F) (m ((c : Thread nD τ).loc main_arg2))

/-- The first row of each chunk. -/
abbrev offs : Fin 6 → ℕ := ![0, 160, 320, 480, 640, 736]

theorem row_inb (j : Fin 6) : ∀ a, (![offs j, 0] : Fin 2 → ℕ) a + (![rows j, 768] : Fin 2 → ℕ) a ≤ S768x768.size a := by
  revert j; decide

/-- The rows of chunk `j`, in the operand or in the result. -/
abbrev rowRect (j : Fin 6) : Rect S768x768 := Rect.unit (s := S768x768) ![offs j, 0] ![rows j, 768] (row_inb j)

/-- The rows of chunk `j` of device `c`'s copy of the operand. -/
def xRow (c : Dev nD) (j : Fin 6) : (rowRect j).shape.Idx → Elt F .bf16 :=
  xM.view.readAt (Elt F) (rowRect j).toLoadRect (xAt m c)

/-- A chunk of the result's precision: `rows j` rows of 768 numbers. -/
abbrev Sum (F : FTy → Type) [FloatOps F] (j : Fin 6) : Type := FVec F ⟨2, ![rows j, 768]⟩ .f32

/-- Device `c`'s own partial product, chunk by chunk, as the kernel computes it. -/
def part0 (c : Dev nD) : (j : Fin 6) → Sum F j
  | 0 => k0_pay3 (aAt m c) (bAt m c) (xRow m c 0)
  | 1 => k0_pay7 (k0_pay2 (bAt m c)) (k0_pay5 (aAt m c) (xRow m c 1)) k0_pay6
  | 2 => k0_pay9 (k0_pay1 (aAt m c)) (k0_pay2 (bAt m c)) (xRow m c 2)
  | 3 => k0_pay13 (k0_pay2 (bAt m c)) (k0_pay11 (k0_pay1 (aAt m c)) (xRow m c 3)) k0_pay12
  | 4 => k0_pay15 (k0_pay1 (aAt m c)) (k0_pay2 (bAt m c)) (xRow m c 4)
  | 5 => k0_pay20 (k0_pay1 (aAt m c)) (k0_pay2 (bAt m c)) (xRow m c 5)

/-- What device `c` sends in stage 0. -/
def val0 (c : Dev nD) : (j : Fin 6) → (slotRect (j, 0)).shape.Idx → Elt F .bf16
  | 0 => k0_pay4 (aAt m c) (bAt m c) (xRow m c 0)
  | 1 => k0_pay8 (k0_pay2 (bAt m c)) (k0_pay5 (aAt m c) (xRow m c 1)) k0_pay6
  | 2 => k0_pay10 (k0_pay1 (aAt m c)) (k0_pay2 (bAt m c)) (xRow m c 2)
  | 3 => k0_pay14 (k0_pay2 (bAt m c)) (k0_pay11 (k0_pay1 (aAt m c)) (xRow m c 3)) k0_pay12
  | 4 => k0_pay16 (k0_pay1 (aAt m c)) (k0_pay2 (bAt m c)) (xRow m c 4)
  | 5 => k0_pay21 (k0_pay1 (aAt m c)) (k0_pay2 (bAt m c)) (xRow m c 5)

/-- What device `c` receives in stage 0. -/
def got0 (c : Dev nD) (j : Fin 6) : (slotRect (j, 0)).shape.Idx → Elt F .bf16 := val0 m (peer (side (j, 0)) c) j

/-- The sum of two devices' partial products, chunk by chunk, that device `c` has after stage 0. -/
def part1 (c : Dev nD) : (j : Fin 6) → Sum F j
  | 0 => k0_pay17 (part0 m c 0) (got0 m c 0)
  | 1 => k0_pay22 (part0 m c 1) (got0 m c 1)
  | 2 => k0_pay24 (part0 m c 2) (got0 m c 2)
  | 3 => k0_pay26 (part0 m c 3) (got0 m c 3)
  | 4 => k0_pay30 (part0 m c 4) (k0_pay29 (got0 m c 4))
  | 5 => k0_pay32 (part0 m c 5) (got0 m c 5)

/-- What device `c` sends in stage 1. -/
def val1 (c : Dev nD) : (j : Fin 6) → (slotRect (j, 1)).shape.Idx → Elt F .bf16
  | 0 => k0_pay19 (k0_pay18 (part0 m c 0) (got0 m c 0))
  | 1 => k0_pay23 (part0 m c 1) (got0 m c 1)
  | 2 => k0_pay25 (part0 m c 2) (got0 m c 2)
  | 3 => k0_pay28 (k0_pay27 (part0 m c 3) (got0 m c 3))
  | 4 => k0_pay31 (part0 m c 4) (k0_pay29 (got0 m c 4))
  | 5 => k0_pay33 (part0 m c 5) (got0 m c 5)

/-- What device `c` sends as message `k`. -/
def val (c : Dev nD) : (k : Slot) → (slotRect k).shape.Idx → Elt F .bf16
  | (j, 0) => val0 m c j
  | (j, 1) => val1 m c j

/-- What device `c` receives as message `k`. -/
def got (c : Dev nD) (k : Slot) : (slotRect k).shape.Idx → Elt F .bf16 := val m (peer (side k) c) k

/-- The rows of chunk `j` of the result on device `c`. -/
def outRow (c : Dev nD) : (j : Fin 6) → (rowRect j).shape.Idx → Elt F .f32
  | 0 => k0_pay34 (part1 m c 0) (got m c (0, 1))
  | 1 => k0_pay35 (part1 m c 1) (got m c (1, 1))
  | 2 => k0_pay36 (part1 m c 2) (got m c (2, 1))
  | 3 => k0_pay37 (part1 m c 3) (got m c (3, 1))
  | 4 => k0_pay38 (part1 m c 4) (got m c (4, 1))
  | 5 => k0_pay39 (part1 m c 5) (got m c (5, 1))

/-- The result's stores, the last one first. -/
def outPieces (c : Dev nD) : List (View.Piece (Elt F) S768x768 .f32) :=
  [⟨rowRect 5, outRow m c 5⟩, ⟨rowRect 4, outRow m c 4⟩, ⟨rowRect 3, outRow m c 3⟩,
    ⟨rowRect 2, outRow m c 2⟩, ⟨rowRect 1, outRow m c 1⟩, ⟨rowRect 0, outRow m c 0⟩]

/-- The result on device `c`: its six row chunks. -/
def outAt (c : Dev nD) : (cc0_stg3_0 : Ref sig .tc).ty.Contents (Elt F) :=
  oM.view.writes (Elt F) (m ((c : Thread nD τ).loc cc0_stg3_0)) (outPieces m c)

end Cert.Exchange

end
-- ==== Proof.Protocol.lean ====
/-
  The agreement behind the exchange: what raises each counter and what the raise hands over, what every device owes
  the others when it starts, and in which order it may wait.
-/
module

public import proofs.«01_k».proof.Proof.Common

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A message's piece of a buffer -/

/-- Device `c` holds message `k`'s piece of the buffer `M`, with contents that read `v` there. -/
def holds (M : Memref sig .tc .vmem S6x2x160x768 .bf16) (c : Dev nD) (k : Slot) (v : (slotRect k).shape.Idx → Elt F .bf16) : sProp 𝕄 :=
  iprop(∃ f : Buf (Elt F) (M.view.loc (c : Thread nD τ)), ⌜M.view.readAt (Elt F) (slotRect k).toLoadRect f = v⌝
    ∗ (M.view.loc (c : Thread nD τ) ↦[M.view.setOn (slotRect k).set]{fullShare} f))

/-- Device `c` holds message `k`'s piece of the buffer `M`, with any contents. -/
def free (M : Memref sig .tc .vmem S6x2x160x768 .bf16) (c : Dev nD) (k : Slot) : sProp 𝕄 :=
  iprop(∃ f : Buf (Elt F) (M.view.loc (c : Thread nD τ)), M.view.loc (c : Thread nD τ) ↦[M.view.setOn (slotRect k).set]{fullShare} f)

instance holds_storable (M : Memref sig .tc .vmem S6x2x160x768 .bf16) (c : Dev nD) (k : Slot) (v : (slotRect k).shape.Idx → Elt F .bf16) :
    BI.Storable (upEmb : UEmb _ 𝕄) (holds M c k v) := by unfold holds; infer_instance
instance free_storable (M : Memref sig .tc .vmem S6x2x160x768 .bf16) (c : Dev nD) (k : Slot) :
    BI.Storable (upEmb : UEmb _ 𝕄) (free (F := F) M c k) := by unfold free; infer_instance

/-- Known contents are some contents. -/
theorem holds_free (M : Memref sig .tc .vmem S6x2x160x768 .bf16) (c : Dev nD) (k : Slot) (v : (slotRect k).shape.Idx → Elt F .bf16) :
    holds M c k v ⊢ (free M c k : sProp 𝕄) := by
  unfold holds free
  iintro ⟨%f, -, H⟩
  iexists f; iexact H

/-! ## Amounts -/

theorem slot_squeezes (k : Slot) : (slotRect k).shape.Squeezes ⟨2, ![rows k.1, 768]⟩ := by revert k; decide

/-- What one transfer of message `k` raises a counter by. -/
def N (k : Slot) : ℕ := ((rM.slice (slotRect k) (fun _ => rfl)).squeeze ⟨2, ![rows k.1, 768]⟩ (slot_squeezes k)).view.dmaCredit

theorem N_pos (k : Slot) : 0 < N k := View.dmaCredit_pos _ (by revert k; decide)

/-! ## The schedule of raises -/

/-- What a device's partner `b` hands it with the barrier's unit: those pieces of the partner's receive buffer that
    the device's messages land in. -/
def barPay (c : Dev nD) (b : Bool) : sProp 𝕄 := bigSep (Finset.univ.filter fun k : Slot => side k = b) fun k => free rM (peer b c) k

instance barPay_storable (c : Dev nD) (b : Bool) : BI.Storable (upEmb : UEmb _ 𝕄) (barPay (F := F) c b) := by unfold barPay; infer_instance

/-- What a raise of each of device `c`'s counters hands over: the barrier's as said; a departure gives the piece of the
    send buffer back; an arrival gives the piece of the receive buffer with the message in it. -/
def payFor (c : Dev nD) (b : Bool) : CellIx → sProp 𝕄
  | none => barPay c b
  | some (false, k) => free sM c k
  | some (true, k) => holds rM c k (got m c k)

instance payFor_storable (c : Dev nD) (b : Bool) (i : CellIx) : BI.Storable (upEmb : UEmb _ 𝕄) (payFor m c b i) := by
  rcases i with _ | ⟨_ | _, k⟩ <;> (unfold payFor; infer_instance)

/-- Who raises a counter: the barrier's is raised by both partners, a message's by one transfer. -/
def dutiesFor : CellIx → Finset Bool
  | none => Finset.univ
  | some _ => {false}

/-- By how much. -/
def amountFor : CellIx → ℕ
  | none => 1
  | some (_, k) => N k

/-- Every counter has one round of raises, the first; then none. -/
def sched : Rounds.Schedule (GSem nD τ sig) Bool 𝕄 where
  duties g r := if r = 0 ∧ g.1.2 = .tc then (ixOf g.2).elim ∅ dutiesFor else ∅
  unitless _ := False
  amount g _ _ := (ixOf g.2).elim 1 amountFor
  payload g _ d := (ixOf g.2).elim iprop(emp) (payFor m g.1.1 d)
  amount_pos g _ _ _ := by
    rcases ixOf g.2 with _ | _ | ⟨x, k⟩
    · exact Nat.one_pos
    · exact Nat.one_pos
    · exact N_pos k

instance sched_storable (g : GSem nD τ sig) (r : ℕ) (d : Bool) : BI.Storable (upEmb : UEmb _ 𝕄) ((sched m).payload g r d) := by
  show BI.Storable upEmb ((ixOf g.2).elim iprop(emp) (payFor m g.1.1 d))
  rcases ixOf g.2 with _ | i
  · show BI.Storable upEmb (iprop(emp) : sProp 𝕄); infer_instance
  · exact payFor_storable m g.1.1 d i

section Facts
variable (c : Dev nD) (i : CellIx)

theorem duties_cell : (sched m).duties (cell c i) 0 = dutiesFor i := by
  have h : (0 : ℕ) = 0 ∧ (cell c i).1.2 = .tc := ⟨rfl, rfl⟩
  dsimp only [sched]
  rw [if_pos h, show ixOf (cell c i).2 = some i from ixOf_csem i]; rfl

theorem duties_later (g : GSem nD τ sig) : ∀ r, 1 ≤ r → (sched m).duties g r = ∅ :=
  fun r hr => if_neg fun h => by omega

theorem amount_cell (d : Bool) : (sched m).amount (cell c i) 0 d = amountFor i := by
  show (ixOf (csem i)).elim 1 amountFor = _
  rw [ixOf_csem]; rfl

theorem payload_cell (d : Bool) : (sched m).payload (cell c i) 0 d = payFor m c d i := by
  show (ixOf (csem i)).elim iprop(emp) (payFor m c d) = _
  rw [ixOf_csem]; rfl

theorem expect_bar : (sched m).expect (barCell c) 0 = 2 := by
  unfold Schedule.expect Schedule.amountOf
  rw [duties_cell, Finset.sum_congr rfl fun d _ => amount_cell m c none d]
  decide

theorem expect_slot (xk : Bool × Slot) : (sched m).expect (cell c (some xk)) 0 = N xk.2 := by
  unfold Schedule.expect Schedule.amountOf
  rw [duties_cell]
  show (∑ d ∈ {false}, _) = _
  rw [Finset.sum_singleton, amount_cell]; rfl

/-- All that the barrier's round hands over; -/
theorem rest_bar : bigSep ((sched m).duties (barCell c) 0 \ ∅) (fun d => (sched m).payload (barCell c) 0 d) = iprop(barPay c false ∗ barPay c true) := by
  rw [Finset.sdiff_empty, duties_cell]
  show bigSep Finset.univ _ = _
  rw [bigSep_univ_eq_bigSepL [false, true] (by decide) (by decide), bigSepL_cons_cons, bigSepL_singleton, payload_cell, payload_cell]
  rfl

/-- and all that a message's counter's round does. -/
theorem rest_slot (xk : Bool × Slot) :
    bigSep ((sched m).duties (cell c (some xk)) 0 \ ∅) (fun d => (sched m).payload (cell c (some xk)) 0 d) = payFor m c false (some xk) := by
  rw [Finset.sdiff_empty, duties_cell]
  show bigSep {false} _ = _
  rw [bigSep_singleton, payload_cell]

end Facts

/-! ## What a device owes -/

/-- The order in which the kernel starts its messages. -/
abbrev order : List Slot := [(0, 0), (1, 0), (2, 0), (3, 0), (4, 0), (0, 1), (5, 0), (1, 1), (2, 1), (3, 1), (4, 1), (5, 1)]

/-- What device `c` owes while the messages in the list are not yet started: each one's arrival. -/
def owe (c : Dev nD) : List Slot → CellTallies nD τ sig Unit
  | [] => 0
  | k :: l => owe c l + tallyAt (recvCell (peer (side k) c) k) () (N k)

/-- What device `c` owes at the start: all arrivals, and a unit to the barrier counter of either partner. -/
def O₀ (c : Dev nD) : CellTallies nD τ sig Unit :=
  owe c order + tallyAt (barCell (peer true c)) () 1 + tallyAt (barCell (peer false c)) () 1

/-- Who may wait where: one level of precedence per counter of a device. -/
def lvFor : CellIx → ℕ
  | none => 1
  | some (true, k) => 2 + (k.1.val + 6 * k.2.val)
  | some (false, _) => 0

def L (g : GSem nD τ sig) : Finset Unit := if g.1.2 = .tc then {()} else ∅
def lv (g : GSem nD τ sig) (_ : Unit) : ℕ := (ixOf g.2).elim 0 lvFor

theorem L_of_ne (g : GSem nD τ sig) (h : g.1.2 ≠ .tc) : L g = ∅ := if_neg h
theorem mem_L (c : Dev nD) (sm : SemLoc sig) (u : Unit) : u ∈ L ((c : Thread nD τ), sm) := by
  rw [show L ((c : Thread nD τ), sm) = {()} from if_pos rfl]; exact Finset.mem_singleton_self _
theorem lv_cell (c : Dev nD) (i : CellIx) (u : Unit) : lv (cell c i) u = lvFor i := by
  show (ixOf (csem i)).elim 0 lvFor = _
  rw [ixOf_csem]; rfl

/-- Whatever is owed while a list of messages is not yet started is owed to the arrival counter of one of them. -/
theorem owe_pos {c : Dev nD} {l : List Slot} {g : GSem nD τ sig} {u : Unit} (h : 0 < owe c l g u) :
    ∃ k ∈ l, g = recvCell (peer (side k) c) k := by
  induction l with
  | nil => exact absurd h (Nat.lt_irrefl 0)
  | cons k l ih =>
    unfold owe at h
    rw [Pi.add_apply, Finsupp.add_apply, tallyAt_apply] at h
    by_cases hg : g = recvCell (peer (side k) c) k
    · exact ⟨k, List.mem_cons_self, hg⟩
    · rw [if_neg fun h' => hg h'.1, Nat.add_zero] at h
      obtain ⟨k', hk', e⟩ := ih h
      exact ⟨k', List.mem_cons_of_mem _ hk', e⟩

/-- At the start a device owes only to barrier and arrival counters. -/
theorem O₀_pos {c : Dev nD} {g : GSem nD τ sig} {u : Unit} (h : 0 < O₀ c g u) :
    ∃ (d : Dev nD) (i : CellIx), g = cell d i ∧ 0 < lvFor i := by
  unfold O₀ at h
  rw [Pi.add_apply, Finsupp.add_apply, Pi.add_apply, Finsupp.add_apply, tallyAt_apply, tallyAt_apply] at h
  by_cases h1 : g = barCell (peer true c)
  · exact ⟨_, none, h1, Nat.one_pos⟩
  by_cases h2 : g = barCell (peer false c)
  · exact ⟨_, none, h2, Nat.one_pos⟩
  rw [if_neg fun h' => h1 h'.1, if_neg fun h' => h2 h'.1] at h
  simp only [Nat.add_zero] at h
  obtain ⟨k, -, e⟩ := owe_pos h
  exact ⟨_, some (true, k), e, by show 0 < 2 + _; omega⟩

/-- A device may wait on a counter that precedes every counter it still owes to. -/
theorem mayWait_owe (c : Dev nD) (i : CellIx) (l : List Slot) (hl : ∀ k ∈ l, lvFor i < lvFor (some (true, k))) :
    (levAts L lv : sProp 𝕄) ⊢ MayWait (c : Thread nD τ) (csem i) () (owe c l) :=
  MayOwe.of_cut (L := L) (lev := lv) (lvFor i) (fun p hp => by rw [Finset.mem_singleton.mp hp]; exact mem_L c _ _)
    (fun g u hg => by obtain ⟨k, -, rfl⟩ := owe_pos hg; exact mem_L _ _ _)
    (fun p hp => by rw [Finset.mem_singleton.mp hp]; exact le_of_eq (lv_cell c i ()))
    (fun g u hg => by obtain ⟨k, hk, rfl⟩ := owe_pos hg; rw [lv_cell]; exact hl k hk)

/-- A device may always wait for one of its own staging transfers. -/
theorem mayWait_stage (c : Dev nD) (q : DmaSem sig) (hq : ∀ i, csem i ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L c _ _)
      (fun g u hg => by obtain ⟨d, i, rfl, -⟩ := O₀_pos hg; exact mem_L _ _ _)
      (fun p hp => by
        rw [Finset.mem_singleton.mp hp]
        show (ixOf (.dma q)).elim 0 lvFor ≤ 0
        unfold ixOf; rw [dif_neg fun ⟨i, h⟩ => hq i h]; exact le_refl 0)
      (fun g u hg => by obtain ⟨d, i, rfl, hi⟩ := O₀_pos hg; rw [lv_cell]; exact hi)
  · rw [MayWait_zero]; iintro -; iempintro

end Cert.Exchange

end
-- ==== Proof.Rules.lean ====
/-
  One rule for each kind of step of the kernel's body, stated once for every message: read a message's piece of a
  buffer, write it, start the message, wait for its arrival, wait for its departure; and the handshake at the start.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CellIx → ℕ)

abbrev 𝒱₀ : Variants := Variants.none

/-- "Device `c`, running `p`, ends with `Q`." -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What everybody knows -/

/-- Every counter of every device keeps to the schedule, and every counter's first round is open. -/
def records : sProp 𝕄 :=
  iprop((bigSep Finset.univ fun ci : Dev nD × CellIx => cellInv ER (sched m) (K ci) (cell ci.1 ci.2))
    ∗ bigSep Finset.univ fun ci : Dev nD × CellIx => reached ER (cell ci.1 ci.2) 0)

instance records_persistent : BI.Persistent (records m K) := by unfold records; infer_instance

theorem record_inv (c : Dev nD) (i : CellIx) : records m K ⊢ cellInv ER (sched m) (K (c, i)) (cell c i) := by
  have h : (bigSep Finset.univ fun ci : Dev nD × CellIx => cellInv ER (sched m) (K ci) (cell ci.1 ci.2))
      ⊢ (cellInv ER (sched m) (K (c, i)) (cell c i) : sProp 𝕄) := bigSep_elim (Finset.mem_univ (c, i))
  unfold records
  iintro ⟨H, -⟩
  iapply h
  iexact H

theorem record_open (c : Dev nD) (i : CellIx) : records m K ⊢ reached ER (cell c i) 0 := by
  have h : (bigSep Finset.univ fun ci : Dev nD × CellIx => reached ER (cell ci.1 ci.2) 0)
      ⊢ (reached ER (cell c i) 0 : sProp 𝕄) := bigSep_elim (Finset.mem_univ (c, i))
  unfold records
  iintro ⟨-, H⟩
  iapply h
  iexact H

/-! ## What a device holds for each message -/

/-- Device `c` owes `O`. -/
def owing (c : Dev nD) (O : CellTallies nD τ sig Unit) : sProp 𝕄 := iprop(∃ W, owes (c : Thread nD τ) O W)

/-- Its right to raise a message's two counters, and its place at the departure counter. -/
def toSend (c : Dev nD) (k : Slot) : sProp 𝕄 :=
  iprop(dutyTok ER (sendCell c k) 0 false ∗ dutyTok ER (recvCell (peer (side k) c) k) 0 false ∗ atPos ER (sendCell c k) 0 ∅ 0)

/-- All that a message's start needs besides the message. -/
def ready (c : Dev nD) (k : Slot) : sProp 𝕄 := iprop(toSend c k ∗ free rM (peer (side k) c) k)

/-- A message on its way: the departure is still to be waited for. -/
def inFlight (c : Dev nD) (k : Slot) : sProp 𝕄 :=
  iprop(cred (tallyAt (sendCell c k) () (N k)) ∗ atPos ER (sendCell c k) 0 ∅ 0)

/-- A message that departed: its piece of the send buffer is back and its counter is at zero for good. -/
def departed (c : Dev nD) (k : Slot) : sProp 𝕄 := iprop(free sM c k ∗ semVal (sendCell c k) 0)

/-- A message that is still to arrive. -/
def toGet (c : Dev nD) (k : Slot) : sProp 𝕄 :=
  iprop(cred (tallyAt (recvCell c k) () (N k)) ∗ atPos ER (recvCell c k) 0 ∅ 0)

/-- A message that arrived: it can be read, and its counter is at zero for good. -/
def arrived (c : Dev nD) (k : Slot) : sProp 𝕄 := iprop(holds rM c k (got m c k) ∗ semVal (recvCell c k) 0)

/-! ## Reading and writing a message's piece -/

/-- Reading a message's piece gives what it holds. -/
theorem run_read (M : Memref sig .tc .vmem S6x2x160x768 .bf16) (c : Dev nD) (k : Slot) (v : (slotRect k).shape.Idx → Elt F .bf16)
    {hl : M.view.LoadsAt (slotRect k).toLoadRect} {α : Type} {Q : α → sProp 𝕄}
    {kont : ((slotRect k).shape.Idx → Elt F .bf16) → Prog (TpuEff nD τ sig (Elt F) Λ₀ .tc) α} :
    (holds M c k v) ⊢ iprop((holds M c k v -∗ runs c (kont v) Q) -∗ runs c (.op (.load M (slotRect k).toLoadRect hl) kont) Q) := by
  unfold holds
  iintro ⟨%f, %hf, H⟩ Hk
  iapply (wp_load 𝒱₀ (c : Thread nD τ) none Set.univ (m := M) (r := (slotRect k).toLoadRect) (hl := hl) (Finset.Subset.refl _)) $$ H
  iintro H
  rw [hf]
  iapply Hk
  iexists f
  isplitr; · ipureintro; exact hf
  iexact H

/-- A read whose result nobody uses needs no knowledge of the contents. -/
theorem run_peek (M : Memref sig .tc .vmem S6x2x160x768 .bf16) (c : Dev nD) (k : Slot)
    {hl : M.view.LoadsAt (slotRect k).toLoadRect} {α : Type} {Q : α → sProp 𝕄} {p : Prog (TpuEff nD τ sig (Elt F) Λ₀ .tc) α} :
    (free M c k) ⊢ iprop((free M c k -∗ runs c p Q) -∗ runs c (.op (.load M (slotRect k).toLoadRect hl) fun _ => p) Q) := by
  unfold free
  iintro ⟨%f, H⟩ Hk
  iapply (wp_load 𝒱₀ (c : Thread nD τ) none Set.univ (m := M) (r := (slotRect k).toLoadRect) (hl := hl) (Finset.Subset.refl _)) $$ H
  iintro H
  iapply Hk
  iexists f
  iexact H

/-- After writing `w` to a message's piece, the piece holds `w`. -/
theorem run_write (M : Memref sig .tc .vmem S6x2x160x768 .bf16) (c : Dev nD) (k : Slot) (w : (slotRect k).shape.Idx → Elt F .bf16)
    {hx : (M.access (slotRect k)).Stores Finset.univ} {hm : (Finset.univ : Finset (slotRect k).shape.Idx) = Finset.univ ∨ ∀ a, (slotRect k).stride a = 1}
    {α : Type} {Q : α → sProp 𝕄} {kont : PUnit → Prog (TpuEff nD τ sig (Elt F) Λ₀ .tc) α} :
    (free M c k) ⊢ iprop((holds M c k w -∗ runs c (kont ⟨⟩) Q) -∗ runs c (.op (.store M (slotRect k) w Finset.univ hx hm) kont) Q) := by
  unfold holds free
  iintro ⟨%f, H⟩ Hk
  iapply (wp_store 𝒱₀ (c : Thread nD τ) none Set.univ (m := M) (r := slotRect k) (w := w) (Mk := Finset.univ) (hx := hx) (hm := hm)
    (S := M.view.setOn (slotRect k).set) (by
      rw [View.setOn_univ]
      show (M.view.slice (slotRect k)).set ⊆ _
      rw [View.set_slice]; exact Finset.Subset.refl _)) $$ H
  iintro H
  iapply Hk
  iexists ((M.access (slotRect k)).write (Elt F) f w Finset.univ)
  isplitr
  · ipureintro
    funext x
    exact View.read_slice_write_emb (v := M.view) (slotRect k) f w (Finset.mem_univ x)
  iexact H

/-- Reading a message that arrived. -/
theorem run_take (c : Dev nD) (k : Slot) {hl : rM.view.LoadsAt (slotRect k).toLoadRect} {α : Type} {Q : α → sProp 𝕄}
    {kont : ((slotRect k).shape.Idx → Elt F .bf16) → Prog (TpuEff nD τ sig (Elt F) Λ₀ .tc) α} :
    arrived m c k ⊢ iprop((arrived m c k -∗ runs c (kont (got m c k)) Q) -∗ runs c (.op (.load rM (slotRect k).toLoadRect hl) kont) Q) := by
  unfold arrived
  iintro ⟨H, Hz⟩ Hk
  iapply (run_read rM c k (got m c k)) $$ H
  iintro H
  iapply Hk
  isplitl [H] <;> iassumption

/-! ## Starting a message -/

/-- The memref that a transfer of message `k` reads or writes: the message's piece of a buffer, its leading axes dropped. -/
abbrev pieceOf (M : Memref sig .tc .vmem S6x2x160x768 .bf16) (k : Slot) {s : Shape} (hs : (slotRect k).shape.Squeezes s) :
    Memref sig .tc .vmem s .bf16 := (M.slice (slotRect k) (fun _ => rfl)).squeeze s hs

/-- Its elements are the piece's. -/
theorem piece_set (M : Memref sig .tc .vmem S6x2x160x768 .bf16) (k : Slot) {s : Shape} (hs : (slotRect k).shape.Squeezes s) :
    (pieceOf M k hs).view.set = M.view.setOn (slotRect k).set := by
  rw [Memref.set_view_squeeze]
  exact View.set_slice _ _

/-- What lands in a piece is what the piece it was sent from read. -/
theorem piece_lands (k : Slot) {s : Shape} (hs : (slotRect k).shape.Squeezes s)
    (fs : sM.view.ty.Contents (Elt F)) (fd : rM.view.ty.Contents (Elt F)) :
    rM.view.readAt (Elt F) (slotRect k).toLoadRect
        ((pieceOf rM k hs).view.write (Elt F) fd ((pieceOf sM k hs).view.read (Elt F) fs) Finset.univ)
      = sM.view.readAt (Elt F) (slotRect k).toLoadRect fs := by
  show rM.view.readAt (Elt F) (slotRect k).toLoadRect (((rM.view.slice (slotRect k)).reshape s hs.numel_eq).write (Elt F) fd _ Finset.univ) = _
  rw [View.write_reshape_univ]
  funext x
  refine (View.read_slice_write_emb (v := rM.view) (slotRect k) fd _ (Finset.mem_univ x)).trans ?_
  show sM.view.read (Elt F) fs ((slotRect k).emb (Shape.reshapeEquiv hs.numel_eq ((Shape.reshapeEquiv hs.numel_eq).symm x))) = _
  rw [Equiv.apply_symm_apply]
  rfl

/-- A departure raises its counter by as much as the arrival. -/
theorem credit_sent (k : Slot) : (pieceOf sM k (slot_squeezes k)).view.dmaCredit = N k := rfl

/-- The program starts message `k` to the device `n`, which is the message's partner, from a piece that holds the message;
    the partner has given its piece.  The arrival is no longer owed, and the departure can be waited for. -/
theorem run_send (c n : Dev nD) (k : Slot) (hn : n = peer (side k) c) (l : List Slot) {s : Shape} (hs : (slotRect k).shape.Squeezes s)
    (hN : (pieceOf rM k hs).view.dmaCredit = N k)
    {hsc : (pieceOf rM k hs : Memref sig (Dev.tc n : Thread nD τ).2.kind .vmem s .bf16).view.ref.isScScratch = false}
    {hsrc : (pieceOf sM k hs).view.WordExact} {hdst : (pieceOf rM k hs).view.WordExact}
    {hsem : DmaTarget.Typed .vmem (.dma (slotSem true k)) (.remote (Dev.tc n : Thread nD τ) (pieceOf rM k hs) (.dma (slotSem false k)) hsc)}
    {α : Type} {Q : α → sProp 𝕄} {kont : PUnit → Prog (TpuEff nD τ sig (Elt F) Λ₀ .tc) α} :
    iprop(records m K ∗ ready c k ∗ holds sM c k (val m c k) ∗ owing c (owe c (k :: l)))
      ⊢ iprop(((inFlight c k ∗ owing c (owe c l)) -∗ runs c (kont ⟨⟩) Q)
          -∗ runs c (.op (.enqueueDma (pieceOf sM k hs) (.remote (Dev.tc n : Thread nD τ) (pieceOf rM k hs) (.dma (slotSem false k)) hsc)
              (.dma (slotSem true k)) hsrc hdst hsem) kont) Q) := by
  subst hn
  unfold ready toSend holds free owing inFlight
  iintro ⟨#HR, ⟨⟨HtS, HtR, Hat⟩, ⟨%fd, Hd⟩⟩, ⟨%fs, %hf, Hs⟩, ⟨%W, HO⟩⟩ Hk
  iapply (Rounds.wp_send_pointsTo 𝒱₀ ER (sched m) (c : Thread nD τ) none (κ₁ := K (c, some (false, k))) (κ₂ := K (peer (side k) c, some (true, k)))
    (src := pieceOf sM k hs) (dst := pieceOf rM k hs) (c' := (Dev.tc (peer (side k) c) : Thread nD τ)) (sS := .dma (slotSem false k)) (sem := .dma (slotSem true k))
    (hsc := hsc) (hsrc := hsrc) (hdst := hdst) (hsem := hsem)
    (r₁ := 0) (r₂ := 0) (d₁ := false) (d₂ := false) (fs := fs) (fd := fd)
    (by rw [show ((c : Thread nD τ), SemLoc.dma (slotSem false k)) = sendCell c k from rfl, duties_cell]; exact Finset.mem_singleton_self _)
    (by rw [show ((Dev.tc (peer (side k) c) : Thread nD τ), SemLoc.dma (slotSem true k)) = recvCell (peer (side k) c) k from rfl, duties_cell]; exact Finset.mem_singleton_self _)
    () () (N k) hN (amount_cell m c (some (false, k)) false) (amount_cell m (peer (side k) c) (some (true, k)) false)
    (O₀ := owe c (k :: l)) (owe c l) rfl (W := W)
    (by
      rw [show ((c : Thread nD τ), SemLoc.dma (slotSem false k)) = sendCell c k from rfl, payload_cell, piece_set]
      unfold payFor free
      iintro H; iexists fs; iexact H)
    (by
      rw [show ((Dev.tc (peer (side k) c) : Thread nD τ), SemLoc.dma (slotSem true k)) = recvCell (peer (side k) c) k from rfl, payload_cell, piece_set]
      unfold payFor holds got
      iintro H
      iexists ((pieceOf rM k hs).view.write (Elt F) fd ((pieceOf sM k hs).view.read (Elt F) fs) Finset.univ)
      isplitr
      · ipureintro; rw [piece_lands, peer_peer]; exact hf
      iexact H)) $$ [HtS HtR Hs Hd HO]
  · isplitr; · iapply (record_inv m K c (some (false, k))); iexact HR
    isplitr; · iapply (record_inv m K (peer (side k) c) (some (true, k))); iexact HR
    isplitl [Hs]; · rw [piece_set]; iexact Hs
    isplitl [Hd]; · rw [piece_set]; iexact Hd
    isplitl [HO]; · iexact HO
    isplitl [HtS]; · iexact HtS
    isplitr; · iapply (record_open m K c (some (false, k))); iexact HR
    isplitl [HtR]; · iexact HtR
    iapply (record_open m K (peer (side k) c) (some (true, k))); iexact HR
  iintro ⟨Hc, HO⟩
  iapply Hk
  isplitl [Hc Hat]
  · isplitl [Hc] <;> iassumption
  iexists W; iexact HO

/-! ## Waiting -/

/-- Waiting on either counter of message `k`, while only messages are owed whose arrivals come later: the message's round is over, its hand-over
    is there, and the counter stays at zero. -/
theorem run_wait (c : Dev nD) (xk : Bool × Slot) (l : List Slot) (hl : ∀ j ∈ l, lvFor (some xk) < lvFor (some (true, j)))
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N xk.2)
    {α : Type} {Q : α → sProp 𝕄} {kont : PUnit → Prog (TpuEff nD τ sig (Elt F) Λ₀ .tc) α} :
    iprop(records m K ∗ levAts L lv ∗ (cred (tallyAt (cell c (some xk)) () (N xk.2)) ∗ atPos ER (cell c (some xk)) 0 ∅ 0) ∗ owing c (owe c l))
      ⊢ iprop((((payFor m c false (some xk) ∗ semVal (cell c (some xk)) 0) ∗ owing c (owe c l)) -∗ runs c (kont ⟨⟩) Q)
          -∗ runs c (.op (.waitDma2 (slotSem xk.1 xk.2) src dst hsrc hdst) kont) Q) := by
  unfold owing
  iintro ⟨#HR, #Hlev, ⟨Hc, Hat⟩, ⟨%W, HO⟩⟩ Hk
  iapply (Rounds.wp_wait_rest_token 𝒱₀ ER (sched m) (c : Thread nD τ) none (κ := K (c, some xk)) (sm := osem xk)
      (wpE_waitDma2_eq 𝒱₀ (c : Thread nD τ) none Set.univ) (Set.mem_univ _) () (O := owe c l) (W := W) (R := 0) (m := 0) (T := ∅)
      (by rw [Nat.zero_add, hN]; exact (expect_slot m c xk).symm)) $$ [Hc HO Hat]
  · isplitr; · iapply (record_inv m K c (some xk)); iexact HR
    isplitl [Hc]; · rw [hN]; iexact Hc
    isplitl [HO]; · iexact HO
    isplitr; · iapply (mayWait_owe c (some xk) l hl); iexact Hlev
    iexact Hat
  iintro ⟨HO, Hat, -, Hpay⟩
  ihave Hp := (Entails.of_eq (rest_slot m c xk)) $$ Hpay
  imod (Rounds.cell_close ER (sched m) (Set.mem_univ (K (c, some xk))) (fun h => h) (R := 0 + 1) (duties_later m (cell c (some xk)))) $$ [Hat] with Hz
  · isplitr; · iapply (record_inv m K c (some xk)); iexact HR
    iexact Hat
  iapply Hk
  isplitl [Hp Hz]
  · isplitl [Hp] <;> iassumption
  iexists _; iexact HO

/-- Waiting for message `k` to arrive. -/
theorem run_get (c : Dev nD) (k : Slot) (l : List Slot) (hl : ∀ j ∈ l, lvFor (some (true, k)) < lvFor (some (true, j)))
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N k)
    {α : Type} {Q : α → sProp 𝕄} {kont : PUnit → Prog (TpuEff nD τ sig (Elt F) Λ₀ .tc) α} :
    iprop(records m K ∗ levAts L lv ∗ toGet c k ∗ owing c (owe c l))
      ⊢ iprop(((arrived m c k ∗ owing c (owe c l)) -∗ runs c (kont ⟨⟩) Q)
          -∗ runs c (.op (.waitDma2 (slotSem true k) src dst hsrc hdst) kont) Q) :=
  run_wait m K c (true, k) l hl hN

/-- Waiting for message `k` to depart, with nothing owed. -/
theorem run_depart (c : Dev nD) (k : Slot)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N k)
    {α : Type} {Q : α → sProp 𝕄} {kont : PUnit → Prog (TpuEff nD τ sig (Elt F) Λ₀ .tc) α} :
    iprop(records m K ∗ levAts L lv ∗ inFlight c k ∗ owing c (owe c []))
      ⊢ iprop(((departed c k ∗ owing c (owe c [])) -∗ runs c (kont ⟨⟩) Q)
          -∗ runs c (.op (.waitDma2 (slotSem false k) src dst hsrc hdst) kont) Q) :=
  run_wait m K c (false, k) [] (fun _ h => absurd h List.not_mem_nil) hN

/-! ## The handshake -/

/-- Telling partner `b` that its messages may come: it is given the pieces of the receive buffer that they land in. -/
theorem run_signal (c n : Dev nD) (b : Bool) (hn : n = peer b c) (O : CellTallies nD τ sig Unit)
    {α : Type} {Q : α → sProp 𝕄} {kont : PUnit → Prog (TpuEff nD τ sig (Elt F) Λ₀ .tc) α} :
    iprop(records m K ∗ dutyTok ER (barCell (peer b c)) 0 b ∗ (bigSep (Finset.univ.filter fun k : Slot => side k = b) fun k => free rM c k)
        ∗ owing c (O + tallyAt (barCell (peer b c)) () 1))
      ⊢ iprop((owing c O -∗ runs c (kont ⟨⟩) Q) -∗ runs c (.op (.semSignal (Dev.tc n : Thread nD τ) barS 1) kont) Q) := by
  subst hn
  unfold owing
  iintro ⟨#HR, Ht, Hfree, ⟨%W, HO⟩⟩ Hk
  iapply (Rounds.wp_signal 𝒱₀ ER (sched m) (c : Thread nD τ) none (dst := (Dev.tc (peer b c) : Thread nD τ)) (sem := barS) (κ := K (peer b c, none)) (r := 0) (d := b)
      (by rw [show ((Dev.tc (peer b c) : Thread nD τ), SemLoc.reg barS) = barCell (peer b c) from rfl, duties_cell]; exact Finset.mem_univ _)
      (amount_cell m (peer b c) none b) () (O₀ := O + tallyAt (barCell (peer b c)) () 1) O rfl) $$ [Ht Hfree HO]
  · isplitr; · iapply (record_inv m K (peer b c) none); iexact HR
    isplitl [HO]; · iexact HO
    isplitl [Ht]; · iexact Ht
    isplitl [Hfree]
    · rw [show ((Dev.tc (peer b c) : Thread nD τ), SemLoc.reg barS) = barCell (peer b c) from rfl, payload_cell]
      unfold payFor barPay; rw [peer_peer]; iexact Hfree
    iapply (record_open m K (peer b c) none); iexact HR
  iintro HO
  iapply Hk
  iexists W; iexact HO

/-- Waiting for both partners' word: their pieces of their receive buffers are there. -/
theorem run_barrier (c : Dev nD) {α : Type} {Q : α → sProp 𝕄} {kont : PUnit → Prog (TpuEff nD τ sig (Elt F) Λ₀ .tc) α} :
    iprop(records m K ∗ levAts L lv ∗ cred (tallyAt (barCell c) () 2) ∗ atPos ER (barCell c) 0 ∅ 0 ∗ owing c (owe c order))
      ⊢ iprop((((bigSep Finset.univ fun k : Slot => free rM (peer (side k) c) k) ∗ semVal (barCell c) 0 ∗ owing c (owe c order)) -∗ runs c (kont ⟨⟩) Q)
          -∗ runs c (.op (.semWait barS 2) kont) Q) := by
  unfold owing
  iintro ⟨#HR, #Hlev, Hc, Hat, ⟨%W, HO⟩⟩ Hk
  iapply (Rounds.wp_wait_rest_token 𝒱₀ ER (sched m) (c : Thread nD τ) none (κ := K (c, none)) (sm := .reg barS)
      (wpE_semWait_eq 𝒱₀ (c : Thread nD τ) none Set.univ) (Set.mem_univ _) () (O := owe c order) (W := W) (R := 0) (m := 0) (T := ∅)
      (by rw [show ((c : Thread nD τ), SemLoc.reg barS) = barCell c from rfl, expect_bar])) $$ [Hc HO Hat]
  · isplitr; · iapply (record_inv m K c none); iexact HR
    isplitl [Hc]; · iexact Hc
    isplitl [HO]; · iexact HO
    isplitr; · iapply (mayWait_owe c none order (by decide)); iexact Hlev
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m (barCell c))) $$ [Hat] with Hz
  · isplitr; · iapply (record_inv m K c none); iexact HR
    iexact Hat
  iapply Hk
  isplitl [Hp]
  · have he : ∀ b : Bool, (bigSep (Finset.univ.filter fun k : Slot => side k = b) fun k => free (F := F) rM (peer b c) k)
        = bigSep (Finset.univ.filter fun k : Slot => side k = b) fun k => free (F := F) rM (peer (side k) c) k := fun b =>
      bigSep_congr fun k hk => by rw [(Finset.mem_filter.mp hk).2]
    have hu : iprop(barPay (F := F) c false ∗ barPay (F := F) c true) ⊢ bigSep Finset.univ fun k : Slot => free (F := F) rM (peer (side k) c) k := by
      unfold barPay
      rw [he false, he true]
      rw [show (Finset.univ : Finset Slot) = (Finset.univ.filter fun k : Slot => side k = false) ∪ Finset.univ.filter fun k : Slot => side k = true from by decide,
        bigSep_union (by decide)]
      exact Entails.refl _
    iapply hu
    iexact Hp
  isplitl [Hz]; · iexact Hz
  iexists _; iexact HO

end Cert.Exchange

end
-- ==== Proof.Body1.lean ====
/-
  The first half of the kernel's body, part by part: the handshake, the stage-0 messages and the first stage-1 message.
-/
module

public import proofs.«01_k».proof.Proof.Rules
public import Idealize.ShloMosaic.Lib.SparseCore.ProtocolKit

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CellIx → ℕ)

/-- A program that has returned; its result may be written in another way. -/
theorem run_done (c : Dev nD) {α : Type} {a : α} (b : α) (h : a = b) {Q : α → sProp 𝕄} : Q b ⊢ runs c (Prog.ret a) Q := by
  subst h
  unfold runs
  rw [wp_ret]
  iintro H
  imodintro
  iexact H

/-- One member of a family of assertions apart from the rest. -/
theorem one_of {ι : Type} [DecidableEq ι] {s : Finset ι} (k : ι) (hk : k ∈ s) (Φ : ι → sProp 𝕄) : bigSep s Φ ⊢ iprop(Φ k ∗ bigSep (s.erase k) Φ) :=
  Entails.of_eq (bigSep_erase hk)

/-! ## The operands -/

/-- Device `c`'s three operands in its staging buffers. -/
def operands (c : Dev nD) : sProp 𝕄 :=
  iprop((((c : Thread nD τ).loc cc0_stg0_0) ↦{fullShare} xAt m c) ∗ (((c : Thread nD τ).loc cc0_stg1_0) ↦{fullShare} aAt m c)
    ∗ (((c : Thread nD τ).loc cc0_stg2_0) ↦{fullShare} bAt m c))

theorem zero_offset : (![0, 0] : Fin 2 → ℕ) = fun _ => 0 := by decide

/-- Reading the first weight block. -/
theorem run_read_a (c : Dev nD) {hi} {hl : aM.view.LoadsAt (Rect.unit (s := S768x1536) ![0, 0] S768x1536.size hi).toLoadRect}
    {α : Type} {Q : α → sProp 𝕄} {kont : Vec F S768x1536 .bf16 → Prog (TpuEff nD τ sig (Elt F) Λ₀ .tc) α} :
    operands m c ⊢ iprop((operands m c -∗ runs c (kont (aAt m c)) Q)
      -∗ runs c (.op (.load aM (Rect.unit (s := S768x1536) ![0, 0] S768x1536.size hi).toLoadRect hl) kont) Q) := by
  unfold operands
  iintro ⟨Hx, Ha, Hb⟩ Hk
  iapply (wp_load 𝒱₀ (c : Thread nD τ) none Set.univ (m := aM) (Finset.subset_univ _)) $$ Ha
  iintro Ha
  rw [show aM.view.readAt (Elt F) _ (aAt m c) = aAt m c from Memref.readAt_unit_zero (Elt F) cc0_stg1_0 zero_offset _ _]
  iapply Hk
  iclose

/-- Reading the second weight block. -/
theorem run_read_b (c : Dev nD) {hi} {hl : bM.view.LoadsAt (Rect.unit (s := S1536x768) ![0, 0] S1536x768.size hi).toLoadRect}
    {α : Type} {Q : α → sProp 𝕄} {kont : Vec F S1536x768 .bf16 → Prog (TpuEff nD τ sig (Elt F) Λ₀ .tc) α} :
    operands m c ⊢ iprop((operands m c -∗ runs c (kont (bAt m c)) Q)
      -∗ runs c (.op (.load bM (Rect.unit (s := S1536x768) ![0, 0] S1536x768.size hi).toLoadRect hl) kont) Q) := by
  unfold operands
  iintro ⟨Hx, Ha, Hb⟩ Hk
  iapply (wp_load 𝒱₀ (c : Thread nD τ) none Set.univ (m := bM) (Finset.subset_univ _)) $$ Hb
  iintro Hb
  rw [show bM.view.readAt (Elt F) _ (bAt m c) = bAt m c from Memref.readAt_unit_zero (Elt F) cc0_stg2_0 zero_offset _ _]
  iapply Hk
  iclose

/-- Reading the rows of chunk `j` of the first operand. -/
theorem run_read_x (c : Dev nD) (j : Fin 6) {hl : xM.view.LoadsAt (rowRect j).toLoadRect}
    {α : Type} {Q : α → sProp 𝕄} {kont : ((rowRect j).shape.Idx → Elt F .bf16) → Prog (TpuEff nD τ sig (Elt F) Λ₀ .tc) α} :
    operands m c ⊢ iprop((operands m c -∗ runs c (kont (xRow m c j)) Q)
      -∗ runs c (.op (.load xM (rowRect j).toLoadRect hl) kont) Q) := by
  unfold operands
  iintro ⟨Hx, Ha, Hb⟩ Hk
  iapply (wp_load 𝒱₀ (c : Thread nD τ) none Set.univ (m := xM) (Finset.subset_univ _)) $$ Hx
  iintro Hx
  iapply Hk
  iclose

/-! ## The parts -/

variable {h0 : xM.IsWhole} {h1 : aM.IsWhole} {h2 : bM.IsWhole} {h3 : oM.IsWhole} {h4 : sM.IsWhole} {h5 : rM.IsWhole}

/-- The handshake's signals, the operands' loads, and the first chunk's product written for sending. -/
theorem run_part1 (c : Dev nD) {Q : _ → sProp 𝕄} :
    iprop(records m K ∗ operands m c ∗ dutyTok ER (barCell (peer false c)) 0 false ∗ dutyTok ER (barCell (peer true c)) 0 true
        ∗ (bigSep (Finset.univ.filter fun k : Slot => side k = false) fun k => free (F := F) rM c k)
        ∗ (bigSep (Finset.univ.filter fun k : Slot => side k = true) fun k => free (F := F) rM c k)
        ∗ free sM c (0, 0) ∗ owing c (O₀ c))
      ⊢ iprop((∀ v3 : BitVec 32, ∀ v4 : BitVec 32, (operands m c ∗ holds sM c (0, 0) (val m c (0, 0)) ∗ owing c (owe c order))
            -∗ Q ⟨c, v3, v4, SemArray.scalar (sig.barrier 0 rfl), k0_pay1 (aAt m c), k0_pay2 (bAt m c), part0 m c 0,
                k0_pay5 (aAt m c) (xRow m c 1), k0_pay6⟩)
          -∗ runs c (k0_part1 (F := F) xM h0 aM h1 bM h2 oM h3 sM h4 rM h5 cc0_scratch2 cc0_scratch3) Q) := by
  rw [k0_part1_eq_skeleton]; unfold k0_part1_skel
  simp only [semSignalWord, semWaitWord, Prog.lift, Prog.bind_op, Prog.bind_ret, Prog.pure_eq_ret, wp_deviceId]
  iintro ⟨#HR, Hop, Ht1, Ht2, Hf1, Hf2, Hs, HO⟩ Hk
  iapplyF (run_signal m K c _ false (by revert c; decide) (owe c order + tallyAt (barCell (peer true c)) () 1))
  iintro HO
  iapplyF (run_signal m K c _ true (by revert c; decide) (owe c order))
  iintro HO
  iapply (run_read_a m c) $$ Hop; iintro Hop
  iapply (run_read_b m c) $$ Hop; iintro Hop
  iapply (run_read_x m c 0) $$ Hop; iintro Hop
  iapply (run_peek sM c (0, 0)) $$ Hs; iintro Hs
  iapply (run_write sM c (0, 0) _) $$ Hs; iintro Hs
  iapply (run_read_x m c 1) $$ Hop; iintro Hop
  iapply (run_done (Q := Q) c ⟨c, Scalar.xori (Scalar.remsi (Scalar.divsi (Dev.word c) 1#32) 4#32) 1#32,
    Scalar.subi 3#32 (Scalar.remsi (Scalar.divsi (Dev.word c) 1#32) 4#32), SemArray.scalar (sig.barrier 0 rfl), k0_pay1 (aAt m c), k0_pay2 (bAt m c),
    part0 m c 0, k0_pay5 (aAt m c) (xRow m c 1), k0_pay6⟩ (by exact rfl))
  iapply Hk
  iclose

/-- Both partners' word is waited for, and message (0, 0) starts. -/
theorem run_part2 (c : Dev nD) (v3 v4 : BitVec 32) {Q : _ → sProp 𝕄} :
    iprop(records m K ∗ levAts L lv ∗ cred (tallyAt (barCell c) () 2) ∗ atPos ER (barCell c) 0 ∅ 0
        ∗ holds sM c (0, 0) (val m c (0, 0)) ∗ toSend c (0, 0) ∗ free sM c (1, 0) ∗ owing c (owe c order))
      ⊢ iprop((((bigSep (Finset.univ.erase (0, 0)) fun k : Slot => free (F := F) rM (peer (side k) c) k) ∗ semVal (barCell c) 0
            ∗ inFlight c (0, 0) ∗ holds sM c (1, 0) (val m c (1, 0)) ∗ owing c (owe c (order.drop 1))) -∗ Q (part0 m c 1))
          -∗ runs c (k0_part2 (F := F) xM h0 aM h1 bM h2 oM h3 sM h4 rM h5 cc0_scratch2 cc0_scratch3 c v3 v4
            (SemArray.scalar (sig.barrier 0 rfl)) (k0_pay2 (bAt m c)) (k0_pay5 (aAt m c) (xRow m c 1)) k0_pay6) Q) := by
  rw [k0_part2_eq_skeleton]; unfold k0_part2_skel
  simp only [semSignalWord, semWaitWord, Prog.lift, Prog.bind_op, Prog.bind_ret, Prog.pure_eq_ret, wp_deviceId]
  iintro ⟨#HR, #HL, Hc, Hat, Hs, HT, Hs1, HO⟩ Hk
  iapply (run_peek sM c (1, 0)) $$ Hs1; iintro Hs1
  iapply (run_write sM c (1, 0) _) $$ Hs1; iintro Hs1
  iapplyF (run_barrier m K c)
  iintro ⟨Hfr, Hz, HO⟩
  ihave Hp := (one_of ((0, 0) : Slot) (Finset.mem_univ _) _) $$ Hfr
  icases Hp with ⟨Hd, Hfr⟩
  ihave Hr := (show iprop(toSend (F := F) c (0, 0) ∗ free rM (peer (side (0, 0)) c) (0, 0)) ⊢ ready c (0, 0) from Entails.refl _) $$ [HT Hd]
  · iclose
  iapplyF (run_send m K c _ (0, 0) (by revert c; decide) (order.drop 1) squeezes_S1x1x160x768_S160x768 rfl)
  iintro ⟨Hi, HO⟩
  iapply (run_done c (part0 m c 1) rfl)
  iapply Hk
  iclose

/-- Messages (1, 0) and (2, 0) start; the third chunk's product is formed. -/
theorem run_part3 (c : Dev nD) (v3 : BitVec 32) {Q : _ → sProp 𝕄} :
    iprop(records m K ∗ operands m c ∗ ready c (1, 0) ∗ holds sM c (1, 0) (val m c (1, 0)) ∗ ready c (2, 0) ∗ free sM c (2, 0) ∗ owing c (owe c (order.drop 1)))
      ⊢ iprop(((operands m c ∗ inFlight c (1, 0) ∗ inFlight c (2, 0) ∗ owing c (owe c (order.drop 3))) -∗ Q ⟨part0 m c 2, k0_pay11 (k0_pay1 (aAt m c)) (xRow m c 3), k0_pay12⟩)
          -∗ runs c (k0_part3 (F := F) xM h0 aM h1 bM h2 oM h3 sM h4 rM h5 cc0_scratch2 cc0_scratch3 c v3 (k0_pay1 (aAt m c)) (k0_pay2 (bAt m c))) Q) := by
  rw [k0_part3_eq_skeleton]; unfold k0_part3_skel
  simp only [Prog.lift, Prog.bind_op, Prog.bind_ret, Prog.pure_eq_ret]
  iintro ⟨#HR, Hop, Hr1, Hs1, Hr2, Hs2, HO⟩ Hk
  iapplyF (run_send m K c _ (1, 0) (by revert c; decide) (order.drop 2) squeezes_S1x1x160x768_S160x768 rfl)
  iintro ⟨Hi1, HO⟩
  iapply (run_read_x m c 2) $$ Hop; iintro Hop
  iapply (run_peek sM c (2, 0)) $$ Hs2; iintro Hs2
  iapply (run_write sM c (2, 0) _) $$ Hs2; iintro Hs2
  iapplyF (run_send m K c _ (2, 0) (by revert c; decide) (order.drop 3) squeezes_S1x1x160x768_S160x768 rfl)
  iintro ⟨Hi2, HO⟩
  iapply (run_read_x m c 3) $$ Hop; iintro Hop
  iapply (run_done (Q := Q) c ⟨part0 m c 2, k0_pay11 (k0_pay1 (aAt m c)) (xRow m c 3), k0_pay12⟩ (by exact rfl))
  iapply Hk
  iclose

/-- Message (3, 0) starts; the fifth chunk's product is formed and written for sending. -/
theorem run_part4 (c : Dev nD) (v4 : BitVec 32) {Q : _ → sProp 𝕄} :
    iprop(records m K ∗ operands m c ∗ ready c (3, 0) ∗ free sM c (3, 0) ∗ free sM c (4, 0) ∗ owing c (owe c (order.drop 3)))
      ⊢ iprop(((operands m c ∗ inFlight c (3, 0) ∗ holds sM c (4, 0) (val m c (4, 0)) ∗ owing c (owe c (order.drop 4))) -∗ Q ⟨part0 m c 3, part0 m c 4⟩)
          -∗ runs c (k0_part4 (F := F) xM h0 aM h1 bM h2 oM h3 sM h4 rM h5 cc0_scratch2 cc0_scratch3 c v4 (k0_pay1 (aAt m c)) (k0_pay2 (bAt m c)) (k0_pay11 (k0_pay1 (aAt m c)) (xRow m c 3)) k0_pay12) Q) := by
  rw [k0_part4_eq_skeleton]; unfold k0_part4_skel
  simp only [Prog.lift, Prog.bind_op, Prog.bind_ret, Prog.pure_eq_ret]
  iintro ⟨#HR, Hop, Hr3, Hs3, Hs4, HO⟩ Hk
  iapply (run_peek sM c (3, 0)) $$ Hs3; iintro Hs3
  iapply (run_write sM c (3, 0) _) $$ Hs3; iintro Hs3
  iapplyF (run_send m K c _ (3, 0) (by revert c; decide) (order.drop 4) squeezes_S1x1x160x768_S160x768 rfl)
  iintro ⟨Hi3, HO⟩
  iapply (run_read_x m c 4) $$ Hop; iintro Hop
  iapply (run_peek sM c (4, 0)) $$ Hs4; iintro Hs4
  iapply (run_write sM c (4, 0) _) $$ Hs4; iintro Hs4
  iapply (run_done (Q := Q) c ⟨part0 m c 3, part0 m c 4⟩ (by exact rfl))
  iapply Hk
  iclose

/-- Message (4, 0) starts; message (0, 0) arrives and its chunk's two products are added. -/
theorem run_part5 (c : Dev nD) (v3 : BitVec 32) {Q : _ → sProp 𝕄} :
    iprop(records m K ∗ levAts L lv ∗ ready c (4, 0) ∗ holds sM c (4, 0) (val m c (4, 0)) ∗ toGet c (0, 0) ∗ owing c (owe c (order.drop 4)))
      ⊢ iprop(((inFlight c (4, 0) ∗ arrived m c (0, 0) ∗ owing c (owe c (order.drop 5))) -∗ Q ⟨part1 m c 0, k0_pay18 (part0 m c 0) (got0 m c 0)⟩)
          -∗ runs c (k0_part5 (F := F) xM h0 aM h1 bM h2 oM h3 sM h4 rM h5 cc0_scratch2 cc0_scratch3 c v3 (part0 m c 0)) Q) := by
  rw [k0_part5_eq_skeleton]; unfold k0_part5_skel
  simp only [Prog.lift, Prog.bind_op, Prog.bind_ret, Prog.pure_eq_ret]
  iintro ⟨#HR, #HL, Hr4, Hs4, Hg, HO⟩ Hk
  iapplyF (run_send m K c _ (4, 0) (by revert c; decide) (order.drop 5) squeezes_S1x1x96x768_S96x768 rfl)
  iintro ⟨Hi4, HO⟩
  iapplyF (run_get m K c (0, 0) (order.drop 5) (by decide) rfl)
  iintro ⟨Hg, HO⟩
  iapply (run_take m c (0, 0)) $$ Hg; iintro Hg
  iapply (run_done (Q := Q) c ⟨part1 m c 0, k0_pay18 (part0 m c 0) (got0 m c 0)⟩ (by exact rfl))
  iapply Hk
  iclose

/-- Message (0, 1) starts; the last chunk's product is formed and written for sending. -/
theorem run_part6 (c : Dev nD) (v4 : BitVec 32) {Q : _ → sProp 𝕄} :
    iprop(records m K ∗ operands m c ∗ ready c (0, 1) ∗ free sM c (0, 1) ∗ free sM c (5, 0) ∗ owing c (owe c (order.drop 5)))
      ⊢ iprop(((operands m c ∗ inFlight c (0, 1) ∗ holds sM c (5, 0) (val m c (5, 0)) ∗ owing c (owe c (order.drop 6))) -∗ Q ⟨part0 m c 5, Scalar.muli v4 1#32⟩)
          -∗ runs c (k0_part6 (F := F) xM h0 aM h1 bM h2 oM h3 sM h4 rM h5 cc0_scratch2 cc0_scratch3 c v4 (k0_pay1 (aAt m c)) (k0_pay2 (bAt m c)) (k0_pay18 (part0 m c 0) (got0 m c 0))) Q) := by
  rw [k0_part6_eq_skeleton]; unfold k0_part6_skel
  simp only [Prog.lift, Prog.bind_op, Prog.bind_ret, Prog.pure_eq_ret]
  iintro ⟨#HR, Hop, Hr, Hs, Hs5, HO⟩ Hk
  iapply (run_peek sM c (0, 1)) $$ Hs; iintro Hs
  iapply (run_write sM c (0, 1) _) $$ Hs; iintro Hs
  iapplyF (run_send m K c _ (0, 1) (by revert c; decide) (order.drop 6) squeezes_S1x1x160x768_S160x768 rfl)
  iintro ⟨Hi, HO⟩
  iapply (run_read_x m c 5) $$ Hop; iintro Hop
  iapply (run_peek sM c (5, 0)) $$ Hs5; iintro Hs5
  iapply (run_write sM c (5, 0) _) $$ Hs5; iintro Hs5
  iapply (run_done (Q := Q) c ⟨part0 m c 5, Scalar.muli v4 1#32⟩ (by exact rfl))
  iapply Hk
  iclose

/-- Message (5, 0) starts; message (1, 0) arrives, and its chunk's sum is written for sending. -/
theorem run_part7 (c : Dev nD) (v4 v156 : BitVec 32) {Q : _ → sProp 𝕄} :
    iprop(records m K ∗ levAts L lv ∗ ready c (5, 0) ∗ holds sM c (5, 0) (val m c (5, 0)) ∗ toGet c (1, 0) ∗ free sM c (1, 1) ∗ owing c (owe c (order.drop 6)))
      ⊢ iprop(((inFlight c (5, 0) ∗ arrived m c (1, 0) ∗ holds sM c (1, 1) (val m c (1, 1)) ∗ owing c (owe c (order.drop 7))) -∗ Q (part1 m c 1))
          -∗ runs c (k0_part7 (F := F) xM h0 aM h1 bM h2 oM h3 sM h4 rM h5 cc0_scratch2 cc0_scratch3 c v4 (part0 m c 1) v156) Q) := by
  rw [k0_part7_eq_skeleton]; unfold k0_part7_skel
  simp only [Prog.lift, Prog.bind_op, Prog.bind_ret, Prog.pure_eq_ret]
  iintro ⟨#HR, #HL, Hr, Hs, Hg, Hp, HO⟩ Hk
  iapplyF (run_send m K c _ (5, 0) (by revert c; decide) (order.drop 7) squeezes_S1x1x32x768_S32x768 rfl)
  iintro ⟨Hi, HO⟩
  iapplyF (run_get m K c (1, 0) (order.drop 7) (by decide) rfl)
  iintro ⟨Hg, HO⟩
  iapply (run_take m c (1, 0)) $$ Hg; iintro Hg
  iapply (run_peek sM c (1, 1)) $$ Hp; iintro Hp
  iapply (run_write sM c (1, 1) _) $$ Hp; iintro Hp
  iapply (run_done (Q := Q) c (part1 m c 1) (by exact rfl))
  iapply Hk
  iclose

/-- Message (1, 1) starts; message (2, 0) arrives, and its chunk's sum is written for sending. -/
theorem run_part8 (c : Dev nD) (v3 : BitVec 32) {Q : _ → sProp 𝕄} :
    iprop(records m K ∗ levAts L lv ∗ ready c (1, 1) ∗ holds sM c (1, 1) (val m c (1, 1)) ∗ toGet c (2, 0) ∗ free sM c (2, 1) ∗ owing c (owe c (order.drop 7)))
      ⊢ iprop(((inFlight c (1, 1) ∗ arrived m c (2, 0) ∗ holds sM c (2, 1) (val m c (2, 1)) ∗ owing c (owe c (order.drop 8))) -∗ Q (part1 m c 2))
          -∗ runs c (k0_part8 (F := F) xM h0 aM h1 bM h2 oM h3 sM h4 rM h5 cc0_scratch2 cc0_scratch3 c v3 (part0 m c 2)) Q) := by
  rw [k0_part8_eq_skeleton]; unfold k0_part8_skel
  simp only [Prog.lift, Prog.bind_op, Prog.bind_ret, Prog.pure_eq_ret]
  iintro ⟨#HR, #HL, Hr, Hs, Hg, Hp, HO⟩ Hk
  iapplyF (run_send m K c _ (1, 1) (by revert c; decide) (order.drop 8) squeezes_S1x1x160x768_S160x768 rfl)
  iintro ⟨Hi, HO⟩
  iapplyF (run_get m K c (2, 0) (order.drop 8) (by decide) rfl)
  iintro ⟨Hg, HO⟩
  iapply (run_take m c (2, 0)) $$ Hg; iintro Hg
  iapply (run_peek sM c (2, 1)) $$ Hp; iintro Hp
  iapply (run_write sM c (2, 1) _) $$ Hp; iintro Hp
  iapply (run_done (Q := Q) c (part1 m c 2) (by exact rfl))
  iapply Hk
  iclose

/-- Message (2, 1) starts; message (3, 0) arrives and its chunk's two products are added. -/
theorem run_part9 (c : Dev nD) (v4 : BitVec 32) {Q : _ → sProp 𝕄} :
    iprop(records m K ∗ levAts L lv ∗ ready c (2, 1) ∗ holds sM c (2, 1) (val m c (2, 1)) ∗ toGet c (3, 0) ∗ owing c (owe c (order.drop 8)))
      ⊢ iprop(((inFlight c (2, 1) ∗ arrived m c (3, 0) ∗ owing c (owe c (order.drop 9))) -∗ Q ⟨part1 m c 3, k0_pay27 (part0 m c 3) (got0 m c 3)⟩)
          -∗ runs c (k0_part9 (F := F) xM h0 aM h1 bM h2 oM h3 sM h4 rM h5 cc0_scratch2 cc0_scratch3 c v4 (part0 m c 3)) Q) := by
  rw [k0_part9_eq_skeleton]; unfold k0_part9_skel
  simp only [Prog.lift, Prog.bind_op, Prog.bind_ret, Prog.pure_eq_ret]
  iintro ⟨#HR, #HL, Hr, Hs, Hg, HO⟩ Hk
  iapplyF (run_send m K c _ (2, 1) (by revert c; decide) (order.drop 9) squeezes_S1x1x160x768_S160x768 rfl)
  iintro ⟨Hi, HO⟩
  iapplyF (run_get m K c (3, 0) (order.drop 9) (by decide) rfl)
  iintro ⟨Hg, HO⟩
  iapply (run_take m c (3, 0)) $$ Hg; iintro Hg
  iapply (run_done (Q := Q) c ⟨part1 m c 3, k0_pay27 (part0 m c 3) (got0 m c 3)⟩ (by exact rfl))
  iapply Hk
  iclose

/-- Message (3, 1) starts; message (4, 0) arrives. -/
theorem run_part10 (c : Dev nD) (v3 : BitVec 32) {Q : _ → sProp 𝕄} :
    iprop(records m K ∗ levAts L lv ∗ ready c (3, 1) ∗ free sM c (3, 1) ∗ toGet c (4, 0) ∗ owing c (owe c (order.drop 9)))
      ⊢ iprop(((inFlight c (3, 1) ∗ arrived m c (4, 0) ∗ owing c (owe c (order.drop 10))) -∗ Q (k0_pay29 (got0 m c 4)))
          -∗ runs c (k0_part10 (F := F) xM h0 aM h1 bM h2 oM h3 sM h4 rM h5 cc0_scratch2 cc0_scratch3 c v3 (k0_pay27 (part0 m c 3) (got0 m c 3))) Q) := by
  rw [k0_part10_eq_skeleton]; unfold k0_part10_skel
  simp only [Prog.lift, Prog.bind_op, Prog.bind_ret, Prog.pure_eq_ret]
  iintro ⟨#HR, #HL, Hr, Hs, Hg, HO⟩ Hk
  iapply (run_peek sM c (3, 1)) $$ Hs; iintro Hs
  iapply (run_write sM c (3, 1) _) $$ Hs; iintro Hs
  iapplyF (run_send m K c _ (3, 1) (by revert c; decide) (order.drop 10) squeezes_S1x1x160x768_S160x768 rfl)
  iintro ⟨Hi, HO⟩
  iapplyF (run_get m K c (4, 0) (order.drop 10) (by decide) rfl)
  iintro ⟨Hg, HO⟩
  iapply (run_take m c (4, 0)) $$ Hg; iintro Hg
  iapply (run_done (Q := Q) c (k0_pay29 (got0 m c 4)) (by exact rfl))
  iapply Hk
  iclose

/-- Message (4, 1) starts; message (5, 0) arrives. -/
theorem run_part11 (c : Dev nD) (v4 : BitVec 32) {Q : _ → sProp 𝕄} :
    iprop(records m K ∗ levAts L lv ∗ ready c (4, 1) ∗ free sM c (4, 1) ∗ toGet c (5, 0) ∗ owing c (owe c (order.drop 10)))
      ⊢ iprop(((inFlight c (4, 1) ∗ arrived m c (5, 0) ∗ owing c (owe c (order.drop 11))) -∗ Q (part1 m c 4))
          -∗ runs c (k0_part11 (F := F) xM h0 aM h1 bM h2 oM h3 sM h4 rM h5 cc0_scratch2 cc0_scratch3 c v4 (part0 m c 4) (k0_pay29 (got0 m c 4))) Q) := by
  rw [k0_part11_eq_skeleton]; unfold k0_part11_skel
  simp only [Prog.lift, Prog.bind_op, Prog.bind_ret, Prog.pure_eq_ret]
  iintro ⟨#HR, #HL, Hr, Hs, Hg, HO⟩ Hk
  iapply (run_peek sM c (4, 1)) $$ Hs; iintro Hs
  iapply (run_write sM c (4, 1) _) $$ Hs; iintro Hs
  iapplyF (run_send m K c _ (4, 1) (by revert c; decide) (order.drop 11) squeezes_S1x1x96x768_S96x768 rfl)
  iintro ⟨Hi, HO⟩
  iapplyF (run_get m K c (5, 0) (order.drop 11) (by decide) rfl)
  iintro ⟨Hg, HO⟩
  iapply (run_done (Q := Q) c (part1 m c 4) (by exact rfl))
  iapply Hk
  iclose

/-- The last message starts. -/
theorem run_part12 (c : Dev nD) (v3 v4 : BitVec 32) {Q : _ → sProp 𝕄} :
    iprop(records m K ∗ ready c (5, 1) ∗ free sM c (5, 1) ∗ arrived m c (5, 0) ∗ owing c (owe c (order.drop 11)))
      ⊢ iprop(((inFlight c (5, 1) ∗ arrived m c (5, 0) ∗ owing c (owe c [])) -∗ Q (part1 m c 5))
          -∗ runs c (k0_part12 (F := F) xM h0 aM h1 bM h2 oM h3 sM h4 rM h5 cc0_scratch2 cc0_scratch3 c v3 v4 (part0 m c 5)) Q) := by
  rw [k0_part12_eq_skeleton]; unfold k0_part12_skel
  simp only [Prog.lift, Prog.bind_op, Prog.bind_ret, Prog.pure_eq_ret]
  iintro ⟨#HR, Hr, Hs, Hg, HO⟩ Hk
  iapply (run_take m c (5, 0)) $$ Hg; iintro Hg
  iapply (run_peek sM c (5, 1)) $$ Hs; iintro Hs
  iapply (run_write sM c (5, 1) _) $$ Hs; iintro Hs
  iapplyF (run_send m K c _ (5, 1) (by revert c; decide) [] squeezes_S1x1x32x768_S32x768 rfl)
  iintro ⟨Hi, HO⟩
  iapply (run_done (Q := Q) c (part1 m c 5) (by exact rfl))
  iapply Hk
  iclose

end Cert.Exchange

end
-- ==== Proof.Body2.lean ====
/-
  The second half of the kernel's body, part by part: the result's rows, and the departures that are still to be waited for.
-/
module

public import proofs.«01_k».proof.Proof.Body1
public import Idealize.ShloMosaic.Lib.SparseCore.ProtocolKit

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CellIx → ℕ)

/-! ## The result's buffer -/

/-- Device `c`'s result buffer after all stores but the last `n`, over whatever it held before. -/
def result (c : Dev nD) (n : ℕ) : sProp 𝕄 :=
  iprop(∃ f : Buf (Elt F) ((c : Thread nD τ).loc cc0_stg3_0), ((c : Thread nD τ).loc cc0_stg3_0) ↦{fullShare} oM.view.writes (Elt F) f ((outPieces m c).drop n))

/-- The read before a store of the result is not used. -/
theorem run_peek_out (c : Dev nD) (j : Fin 6) (n : ℕ) {hl : oM.view.LoadsAt (rowRect j).toLoadRect}
    {α : Type} {Q : α → sProp 𝕄} {p : Prog (TpuEff nD τ sig (Elt F) Λ₀ .tc) α} :
    result m c n ⊢ iprop((result m c n -∗ runs c p Q) -∗ runs c (.op (.load oM (rowRect j).toLoadRect hl) fun _ => p) Q) := by
  unfold result
  iintro ⟨%f, H⟩ Hk
  iapply (wp_load 𝒱₀ (c : Thread nD τ) none Set.univ (m := oM) (Finset.subset_univ _)) $$ H
  iintro H
  iapply Hk
  iexists f
  iexact H

/-- Storing the rows of chunk `j` of the result. -/
theorem run_put (c : Dev nD) (j : Fin 6) (n : ℕ) (w : (rowRect j).shape.Idx → Elt F .f32) (hw : w = outRow m c j)
    (hn : (outPieces m c).drop n = ⟨rowRect j, outRow m c j⟩ :: (outPieces m c).drop (n + 1))
    {hx : (oM.access (rowRect j)).Stores Finset.univ} {hm : (Finset.univ : Finset (rowRect j).shape.Idx) = Finset.univ ∨ ∀ a, (rowRect j).stride a = 1}
    {α : Type} {Q : α → sProp 𝕄} {kont : PUnit → Prog (TpuEff nD τ sig (Elt F) Λ₀ .tc) α} :
    result m c (n + 1) ⊢ iprop((result m c n -∗ runs c (kont ⟨⟩) Q) -∗ runs c (.op (.store oM (rowRect j) w Finset.univ hx hm) kont) Q) := by
  unfold result
  subst hw
  iintro ⟨%f, H⟩ Hk
  iapply (wp_store 𝒱₀ (c : Thread nD τ) none Set.univ (m := oM) (r := rowRect j) (Mk := Finset.univ) (hx := hx) (hm := hm) (Finset.subset_univ _)) $$ H
  iintro H
  iapply Hk
  iexists f
  rw [hn]
  iexact H

/-! ## The parts -/

variable {h0 : xM.IsWhole} {h1 : aM.IsWhole} {h2 : bM.IsWhole} {h3 : oM.IsWhole} {h4 : sM.IsWhole} {h5 : rM.IsWhole}

/-- The first two chunks of the result are stored. -/
theorem run_part13 (c : Dev nD) (v3 v4 : BitVec 32) {Q : _ → sProp 𝕄} :
    iprop(records m K ∗ levAts L lv ∗ toGet c (0, 1) ∗ toGet c (1, 1) ∗ result m c 6 ∗ owing c (owe c []))
      ⊢ iprop(((arrived m c (0, 1) ∗ arrived m c (1, 1) ∗ result m c 4 ∗ owing c (owe c [])) -∗ Q (Scalar.muli v4 1#32))
          -∗ runs c (k0_part13 (F := F) xM h0 aM h1 bM h2 oM h3 sM h4 rM h5 cc0_scratch2 cc0_scratch3 v3 v4 (part1 m c 0) (part1 m c 1)) Q) := by
  rw [k0_part13_eq_skeleton]; unfold k0_part13_skel
  simp only [Prog.lift, Prog.bind_op, Prog.bind_ret, Prog.pure_eq_ret]
  iintro ⟨#HR, #HL, Hg, Hg2, Hr, HO⟩ Hk
  iapplyF (run_get m K c (0, 1) [] (by simp) rfl)
  iintro ⟨Hg, HO⟩
  iapply (run_take m c (0, 1)) $$ Hg; iintro Hg
  iapply (run_peek_out m c 0 6) $$ Hr; iintro Hr
  iapply (run_put m c 0 5 _ rfl rfl) $$ Hr; iintro Hr
  iapplyF (run_get m K c (1, 1) [] (by simp) rfl)
  iintro ⟨Hg2, HO⟩
  iapply (run_take m c (1, 1)) $$ Hg2; iintro Hg2
  iapply (run_peek_out m c 1 5) $$ Hr; iintro Hr
  iapply (run_put m c 1 4 _ rfl rfl) $$ Hr; iintro Hr
  iapply (run_done (Q := Q) c (Scalar.muli v4 1#32) (by exact rfl))
  iapply Hk
  iclose

/-- The next two chunks of the result are stored. -/
theorem run_part14 (c : Dev nD) (v3 v322 : BitVec 32) {Q : _ → sProp 𝕄} :
    iprop(records m K ∗ levAts L lv ∗ toGet c (2, 1) ∗ toGet c (3, 1) ∗ result m c 4 ∗ owing c (owe c []))
      ⊢ iprop(((arrived m c (2, 1) ∗ arrived m c (3, 1) ∗ result m c 2 ∗ owing c (owe c [])) -∗ Q ⟨⟩)
          -∗ runs c (k0_part14 (F := F) xM h0 aM h1 bM h2 oM h3 sM h4 rM h5 cc0_scratch2 cc0_scratch3 v3 (part1 m c 2) (part1 m c 3) v322) Q) := by
  rw [k0_part14_eq_skeleton]; unfold k0_part14_skel
  simp only [Prog.lift, Prog.bind_op, Prog.bind_ret, Prog.pure_eq_ret]
  iintro ⟨#HR, #HL, Hg, Hg2, Hr, HO⟩ Hk
  iapplyF (run_get m K c (2, 1) [] (by simp) rfl)
  iintro ⟨Hg, HO⟩
  iapply (run_take m c (2, 1)) $$ Hg; iintro Hg
  iapply (run_peek_out m c 2 4) $$ Hr; iintro Hr
  iapply (run_put m c 2 3 _ rfl rfl) $$ Hr; iintro Hr
  iapplyF (run_get m K c (3, 1) [] (by simp) rfl)
  iintro ⟨Hg2, HO⟩
  iapply (run_take m c (3, 1)) $$ Hg2; iintro Hg2
  iapply (run_peek_out m c 3 3) $$ Hr; iintro Hr
  iapply (run_put m c 3 2 _ rfl rfl) $$ Hr; iintro Hr
  iapply (run_done (Q := Q) c ⟨⟩ (by exact rfl))
  iapply Hk
  iclose

/-- The fifth chunk of the result is stored, and the last message arrives. -/
theorem run_part15 (c : Dev nD) (v3 v4 : BitVec 32) {Q : _ → sProp 𝕄} :
    iprop(records m K ∗ levAts L lv ∗ toGet c (4, 1) ∗ toGet c (5, 1) ∗ result m c 2 ∗ owing c (owe c []))
      ⊢ iprop(((arrived m c (4, 1) ∗ arrived m c (5, 1) ∗ result m c 1 ∗ owing c (owe c [])) -∗ Q ⟨⟩)
          -∗ runs c (k0_part15 (F := F) xM h0 aM h1 bM h2 oM h3 sM h4 rM h5 cc0_scratch2 cc0_scratch3 v3 v4 (part1 m c 4)) Q) := by
  rw [k0_part15_eq_skeleton]; unfold k0_part15_skel
  simp only [Prog.lift, Prog.bind_op, Prog.bind_ret, Prog.pure_eq_ret]
  iintro ⟨#HR, #HL, Hg, Hg2, Hr, HO⟩ Hk
  iapplyF (run_get m K c (4, 1) [] (by simp) rfl)
  iintro ⟨Hg, HO⟩
  iapply (run_take m c (4, 1)) $$ Hg; iintro Hg
  iapply (run_peek_out m c 4 2) $$ Hr; iintro Hr
  iapply (run_put m c 4 1 _ rfl rfl) $$ Hr; iintro Hr
  iapplyF (run_get m K c (5, 1) [] (by simp) rfl)
  iintro ⟨Hg2, HO⟩
  iapply (run_done (Q := Q) c ⟨⟩ (by exact rfl))
  iapply Hk
  iclose

/-- The last chunk of the result is stored; the first chunk's messages departed. -/
theorem run_part16 (c : Dev nD) {Q : _ → sProp 𝕄} :
    iprop(records m K ∗ levAts L lv ∗ arrived m c (5, 1) ∗ result m c 1 ∗ inFlight c (0, 0) ∗ inFlight c (0, 1) ∗ owing c (owe c []))
      ⊢ iprop(((arrived m c (5, 1) ∗ result m c 0 ∗ departed c (0, 0) ∗ departed c (0, 1) ∗ owing c (owe c [])) -∗ Q ⟨⟩)
          -∗ runs c (k0_part16 (F := F) xM h0 aM h1 bM h2 oM h3 sM h4 rM h5 cc0_scratch2 cc0_scratch3 (part1 m c 5)) Q) := by
  rw [k0_part16_eq_skeleton]; unfold k0_part16_skel
  simp only [Prog.lift, Prog.bind_op, Prog.bind_ret, Prog.pure_eq_ret]
  iintro ⟨#HR, #HL, Hg, Hr, Hi, Hi2, HO⟩ Hk
  iapply (run_take m c (5, 1)) $$ Hg; iintro Hg
  iapply (run_peek_out m c 5 1) $$ Hr; iintro Hr
  iapply (run_put m c 5 0 _ rfl rfl) $$ Hr; iintro Hr
  iapplyF (run_depart m K c (0, 0) (credit_sent (0, 0)))
  iintro ⟨Hd, HO⟩
  iapplyF (run_depart m K c (0, 1) (credit_sent (0, 1)))
  iintro ⟨Hd2, HO⟩
  iapply (run_done (Q := Q) c ⟨⟩ (by exact rfl))
  iapply Hk
  iclose

/-- Three more messages departed. -/
theorem run_part17 (c : Dev nD) {Q : _ → sProp 𝕄} :
    iprop(records m K ∗ levAts L lv ∗ inFlight c (1, 0) ∗ inFlight c (1, 1) ∗ inFlight c (2, 0) ∗ owing c (owe c []))
      ⊢ iprop(((departed c (1, 0) ∗ departed c (1, 1) ∗ departed c (2, 0) ∗ owing c (owe c [])) -∗ Q ⟨⟩)
          -∗ runs c (k0_part17 (F := F) xM h0 aM h1 bM h2 oM h3 sM h4 rM h5 cc0_scratch2 cc0_scratch3) Q) := by
  rw [k0_part17_eq_skeleton]; unfold k0_part17_skel
  simp only [Prog.lift, Prog.bind_op, Prog.bind_ret, Prog.pure_eq_ret]
  iintro ⟨#HR, #HL, H0, H1, H2, HO⟩ Hk
  iapplyF (run_depart m K c (1, 0) (credit_sent (1, 0)))
  iintro ⟨H0, HO⟩
  iapplyF (run_depart m K c (1, 1) (credit_sent (1, 1)))
  iintro ⟨H1, HO⟩
  iapplyF (run_depart m K c (2, 0) (credit_sent (2, 0)))
  iintro ⟨H2, HO⟩
  iapply (run_done (Q := Q) c ⟨⟩ (by exact rfl))
  iapply Hk
  iclose

/-- Three more messages departed. -/
theorem run_part18 (c : Dev nD) {Q : _ → sProp 𝕄} :
    iprop(records m K ∗ levAts L lv ∗ inFlight c (2, 1) ∗ inFlight c (3, 0) ∗ inFlight c (3, 1) ∗ owing c (owe c []))
      ⊢ iprop(((departed c (2, 1) ∗ departed c (3, 0) ∗ departed c (3, 1) ∗ owing c (owe c [])) -∗ Q ⟨⟩)
          -∗ runs c (k0_part18 (F := F) xM h0 aM h1 bM h2 oM h3 sM h4 rM h5 cc0_scratch2 cc0_scratch3) Q) := by
  rw [k0_part18_eq_skeleton]; unfold k0_part18_skel
  simp only [Prog.lift, Prog.bind_op, Prog.bind_ret, Prog.pure_eq_ret]
  iintro ⟨#HR, #HL, H0, H1, H2, HO⟩ Hk
  iapplyF (run_depart m K c (2, 1) (credit_sent (2, 1)))
  iintro ⟨H0, HO⟩
  iapplyF (run_depart m K c (3, 0) (credit_sent (3, 0)))
  iintro ⟨H1, HO⟩
  iapplyF (run_depart m K c (3, 1) (credit_sent (3, 1)))
  iintro ⟨H2, HO⟩
  iapply (run_done (Q := Q) c ⟨⟩ (by exact rfl))
  iapply Hk
  iclose

/-- Three more messages departed. -/
theorem run_part19 (c : Dev nD) {Q : _ → sProp 𝕄} :
    iprop(records m K ∗ levAts L lv ∗ inFlight c (4, 0) ∗ inFlight c (4, 1) ∗ inFlight c (5, 0) ∗ owing c (owe c []))
      ⊢ iprop(((departed c (4, 0) ∗ departed c (4, 1) ∗ departed c (5, 0) ∗ owing c (owe c [])) -∗ Q ⟨⟩)
          -∗ runs c (k0_part19 (F := F) xM h0 aM h1 bM h2 oM h3 sM h4 rM h5 cc0_scratch2 cc0_scratch3) Q) := by
  rw [k0_part19_eq_skeleton]; unfold k0_part19_skel
  simp only [Prog.lift, Prog.bind_op, Prog.bind_ret, Prog.pure_eq_ret]
  iintro ⟨#HR, #HL, H0, H1, H2, HO⟩ Hk
  iapplyF (run_depart m K c (4, 0) (credit_sent (4, 0)))
  iintro ⟨H0, HO⟩
  iapplyF (run_depart m K c (4, 1) (credit_sent (4, 1)))
  iintro ⟨H1, HO⟩
  iapplyF (run_depart m K c (5, 0) (credit_sent (5, 0)))
  iintro ⟨H2, HO⟩
  iapply (run_done (Q := Q) c ⟨⟩ (by exact rfl))
  iapply Hk
  iclose

end Cert.Exchange

end
-- ==== Proof.Body3.lean ====
/-
  The kernel's body as a whole: its nineteen parts one after the other.
-/
module

public import proofs.«01_k».proof.Proof.Body2
public import Idealize.ShloMosaic.Lib.SparseCore.ProtocolKit

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CellIx → ℕ)

/-! ## A buffer and its pieces -/

/-- The part of a buffer that no message occupies. -/
def rest (M : Memref sig .tc .vmem S6x2x160x768 .bf16) (c : Dev nD) : sProp 𝕄 :=
  iprop(∃ f : Buf (Elt F) (M.view.loc (c : Thread nD τ)),
    M.view.loc (c : Thread nD τ) ↦[Finset.univ \ Finset.univ.biUnion fun k : Slot => M.view.setOn (slotRect k).set]{fullShare} f)

/-- A buffer held whole is held message by message, and the rest. -/
theorem cut (M : Memref sig .tc .vmem S6x2x160x768 .bf16) (c : Dev nD) :
    iprop(∃ f : Buf (Elt F) (M.view.loc (c : Thread nD τ)), M.view.loc (c : Thread nD τ) ↦{fullShare} f)
      ⊢ (iprop((bigSep Finset.univ fun k : Slot => free M c k) ∗ rest M c) : sProp 𝕄) := by
  iintro ⟨%f, H⟩
  ihave H' := ((Entails.of_eq (by rw [Finset.union_sdiff_of_subset (Finset.subset_univ _)])).trans
    (pointsTo_union (ℓ := M.view.loc (c : Thread nD τ)) (q := fullShare) (f := f)
      (I := Finset.univ.biUnion fun k : Slot => M.view.setOn (slotRect k).set) Finset.disjoint_sdiff).1) $$ H
  icases H' with ⟨H1, H2⟩
  isplitl [H1]
  · ihave H3 := (Entails.of_eq (pointsTo_biUnion (ℓ := M.view.loc (c : Thread nD τ)) (q := fullShare) (f := f) Finset.univ
      (fun k : Slot => M.view.setOn (slotRect k).set) (fun k _ k' _ h => View.disjoint_setOn M.view (slot_disjoint k k' h)))) $$ H1
    have hm : (bigSep Finset.univ fun k : Slot => M.view.loc (c : Thread nD τ) ↦[M.view.setOn (slotRect k).set]{fullShare} f)
        ⊢ (bigSep Finset.univ fun k : Slot => free M c k : sProp 𝕄) := bigSep_mono fun k _ => by
      show (M.view.loc (c : Thread nD τ) ↦[M.view.setOn (slotRect k).set]{fullShare} f) ⊢ (free M c k : sProp 𝕄)
      unfold free; iintro H; iexists f; iexact H
    iapply hm
    iexact H3
  unfold rest
  iexists f
  iexact H2

/-- And pieces and rest join to the whole. -/
theorem join (M : Memref sig .tc .vmem S6x2x160x768 .bf16) (c : Dev nD) :
    iprop((bigSep Finset.univ fun k : Slot => free M c k) ∗ rest M c)
      ⊢ (iprop(∃ f : Buf (Elt F) (M.view.loc (c : Thread nD τ)), M.view.loc (c : Thread nD τ) ↦{fullShare} f) : sProp 𝕄) := by
  unfold rest free
  iintro ⟨H, ⟨%f, Hr⟩⟩
  ihave H' := (Ring.pointsTo_sub_blocks_join_exists (fun k : Slot => M.view.setOn (slotRect k).set)
    (fun k k' h => View.disjoint_setOn M.view (slot_disjoint k k' h)) _ rfl f) $$ H
  icases H' with ⟨%g, Hg⟩
  ihave Hj := (pointsTo_join (ℓ := M.view.loc (c : Thread nD τ)) (q := fullShare) Finset.disjoint_sdiff) $$ [Hg Hr]
  · isplitl [Hg] <;> iassumption
  rw [Finset.union_sdiff_of_subset (Finset.subset_univ _)]
  iexists _
  iexact Hj

/-- A family over all messages, listed. -/
theorem slots (Φ : Slot → sProp 𝕄) : bigSep Finset.univ Φ = iprop(Φ (0, 0) ∗ Φ (0, 1) ∗ Φ (1, 0) ∗ Φ (1, 1) ∗ Φ (2, 0) ∗ Φ (2, 1) ∗ Φ (3, 0) ∗ Φ (3, 1) ∗ Φ (4, 0) ∗ Φ (4, 1) ∗ Φ (5, 0) ∗ Φ (5, 1)) :=
  bigSep_univ_eq_bigSepL [(0, 0), (0, 1), (1, 0), (1, 1), (2, 0), (2, 1), (3, 0), (3, 1), (4, 0), (4, 1), (5, 0), (5, 1)] (by decide) (by decide) Φ

/-- A family over all messages but the first, listed. -/
theorem slots_tail (Φ : Slot → sProp 𝕄) : bigSep (Finset.univ.erase (0, 0)) Φ = iprop(Φ (0, 1) ∗ Φ (1, 0) ∗ Φ (1, 1) ∗ Φ (2, 0) ∗ Φ (2, 1) ∗ Φ (3, 0) ∗ Φ (3, 1) ∗ Φ (4, 0) ∗ Φ (4, 1) ∗ Φ (5, 0) ∗ Φ (5, 1)) :=
  bigSep_eq_bigSepL_of_eq [(0, 1), (1, 0), (1, 1), (2, 0), (2, 1), (3, 0), (3, 1), (4, 0), (4, 1), (5, 0), (5, 1)] (by decide) (by decide) Φ

/-- A family over all messages, by partner. -/
theorem sides (Φ : Slot → sProp 𝕄) : bigSep Finset.univ Φ
    ⊢ iprop(bigSep (Finset.univ.filter fun k : Slot => side k = false) Φ ∗ bigSep (Finset.univ.filter fun k : Slot => side k = true) Φ) := by
  rw [show (Finset.univ : Finset Slot) = (Finset.univ.filter fun k : Slot => side k = false) ∪ Finset.univ.filter fun k : Slot => side k = true from by decide,
    bigSep_union (by decide)]
  exact Entails.refl _

/-- Rights to start messages and the partners' pieces, brought together. -/
theorem ready_join (c : Dev nD) (s : Finset Slot) :
    iprop((bigSep s fun k => toSend (F := F) c k) ∗ bigSep s fun k => free (F := F) rM (peer (side k) c) k) ⊢ bigSep s fun k => ready (F := F) c k :=
  Entails.of_eq (bigSep_sep' s (fun k => toSend (F := F) c k) fun k => free (F := F) rM (peer (side k) c) k).symm

/-! ## The body -/

/-- One program after another. -/
theorem run_seq (c : Dev nD) {α β : Type} (p : Prog (TpuEff nD τ sig (Elt F) Λ₀ .tc) α) (k : α → Prog (TpuEff nD τ sig (Elt F) Λ₀ .tc) β) {Q : β → sProp 𝕄} :
    runs c p (fun a => runs c (k a) Q) ⊢ runs c (p >>= k) Q := by
  unfold runs
  rw [wp_bind]

/-- What the body starts from. -/
def entry (c : Dev nD) : sProp 𝕄 :=
  iprop(operands m c ∗ result m c 6 ∗ dutyTok ER (barCell (peer false c)) 0 false ∗ dutyTok ER (barCell (peer true c)) 0 true
    ∗ (cred (tallyAt (barCell c) () 2) ∗ atPos ER (barCell c) 0 ∅ 0)
    ∗ (bigSep Finset.univ fun k : Slot => toSend (F := F) c k) ∗ (bigSep Finset.univ fun k : Slot => toGet (F := F) c k)
    ∗ (bigSep Finset.univ fun k : Slot => free (F := F) sM c k) ∗ (bigSep Finset.univ fun k : Slot => free (F := F) rM c k)
    ∗ owing c (O₀ c))

/-- What the body ends with. -/
def exit (c : Dev nD) : sProp 𝕄 :=
  iprop(operands m c ∗ result m c 0 ∗ semVal (barCell c) 0
    ∗ (bigSep Finset.univ fun k : Slot => departed (F := F) c k) ∗ (bigSep Finset.univ fun k : Slot => arrived m c k)
    ∗ owing c (owe c []))

set_option maxHeartbeats 1600000 in
/-- The body takes the one to the other. -/
theorem run_body (c : Dev nD) (Q : PUnit → sProp 𝕄) :
    iprop(records m K ∗ levAts L lv ∗ entry m c)
      ⊢ iprop((exit m c -∗ Q ⟨⟩) -∗ runs c (cc0_body (F := F) xM (Memref.isWhole_whole _) aM (Memref.isWhole_whole _) bM (Memref.isWhole_whole _)
          oM (Memref.isWhole_whole _) sM (Memref.isWhole_whole _) rM (Memref.isWhole_whole _) cc0_scratch2 cc0_scratch3) Q) := by
  rw [cc0_body_eq_skeleton]; unfold cc0_body_skel entry
  iintro ⟨#HR, #HL, Hop, Hout, Ht1, Ht2, ⟨Hbc, Hbat⟩, HT, HG, HS, Hfr, HO⟩ Hk
  -- every message by name
  ihave Hfr' := (sides _) $$ Hfr
  icases Hfr' with ⟨Hf1, Hf2⟩
  ihave HT' := (one_of ((0, 0) : Slot) (Finset.mem_univ _) _) $$ HT
  icases HT' with ⟨T00, HT⟩
  ihave HG' := (Entails.of_eq (slots _)) $$ HG
  icases HG' with ⟨G00, G01, G10, G11, G20, G21, G30, G31, G40, G41, G50, G51⟩
  ihave HS' := (Entails.of_eq (slots _)) $$ HS
  icases HS' with ⟨S00, S01, S10, S11, S20, S21, S30, S31, S40, S41, S50, S51⟩
  -- the handshake
  iapply (run_seq c)
  iapplyF (run_part1 m K c)
  iintro %v3 %v4 ⟨Hop, S00, HO⟩
  iapply (run_seq c)
  iapplyF (run_part2 m K c v3 v4)
  iintro ⟨Hfr, Hz, I00, S10, HO⟩
  ihave HT' := (ready_join c _) $$ [HT Hfr]
  · isplitl [HT] <;> iassumption
  ihave HT' := (Entails.of_eq (slots_tail (fun k => ready (F := F) c k))) $$ HT'
  icases HT' with ⟨T01, T10, T11, T20, T21, T30, T31, T40, T41, T50, T51⟩
  -- the messages
  iapply (run_seq c)
  iapplyF (run_part3 m K c v3)
  iintro ⟨Hop, I10, I20, HO⟩
  iapply (run_seq c)
  iapplyF (run_part4 m K c v4)
  iintro ⟨Hop, I30, S40, HO⟩
  iapply (run_seq c)
  iapplyF (run_part5 m K c v3)
  iintro ⟨I40, G00, HO⟩
  iapply (run_seq c)
  iapplyF (run_part6 m K c v4)
  iintro ⟨Hop, I01, S50, HO⟩
  iapply (run_seq c)
  iapplyF (run_part7 m K c v4 _)
  iintro ⟨I50, G10, S11, HO⟩
  iapply (run_seq c)
  iapplyF (run_part8 m K c v3)
  iintro ⟨I11, G20, S21, HO⟩
  iapply (run_seq c)
  iapplyF (run_part9 m K c v4)
  iintro ⟨I21, G30, HO⟩
  iapply (run_seq c)
  iapplyF (run_part10 m K c v3)
  iintro ⟨I31, G40, HO⟩
  iapply (run_seq c)
  iapplyF (run_part11 m K c v4)
  iintro ⟨I41, G50, HO⟩
  iapply (run_seq c)
  iapplyF (run_part12 m K c v3 v4)
  iintro ⟨I51, G50, HO⟩
  -- the result's rows
  iapply (run_seq c)
  iapplyF (run_part13 m K c v3 v4)
  iintro ⟨G01, G11, Hout, HO⟩
  iapply (run_seq c)
  iapplyF (run_part14 m K c v3 _)
  iintro ⟨G21, G31, Hout, HO⟩
  iapply (run_seq c)
  iapplyF (run_part15 m K c v3 v4)
  iintro ⟨G41, G51, Hout, HO⟩
  iapply (run_seq c)
  iapplyF (run_part16 m K c)
  iintro ⟨G51, Hout, D00, D01, HO⟩
  iapply (run_seq c)
  iapplyF (run_part17 m K c)
  iintro ⟨D10, D11, D20, HO⟩
  iapply (run_seq c)
  iapplyF (run_part18 m K c)
  iintro ⟨D21, D30, D31, HO⟩
  iapply (run_seq c)
  iapplyF (run_part19 m K c)
  iintro ⟨D40, D41, D50, HO⟩
  -- the last departure
  simp only [Prog.lift, Prog.bind_op, Prog.bind_ret, Prog.pure_eq_ret]
  iapplyF (run_depart m K c (5, 1) (credit_sent (5, 1)))
  iintro ⟨D51, HO⟩
  iapply (run_done (Q := Q) c ⟨⟩ rfl)
  iapply Hk
  unfold exit
  rw [slots, slots]
  iclose

end Cert.Exchange

end
-- ==== Proof.Deal.lean ====
/-
  What the start of the program deals to each device, and that it is what the devices' bodies start from: every device
  is given the rights to raise its own counters and passes them to the partners that raise them.
-/
module

public import proofs.«01_k».proof.Proof.Body3

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families, listed -/

/-- A family over the two partners or the two directions. -/
theorem over_bool (Φ : Bool → sProp 𝕄) : bigSep Finset.univ Φ = iprop(Φ false ∗ Φ true) :=
  bigSep_univ_eq_bigSepL [false, true] (by decide) (by decide) Φ

/-- A family with one more member. -/
theorem over_option {I : Type} [Fintype I] [DecidableEq I] (Φ : Option I → sProp 𝕄) :
    bigSep Finset.univ Φ = iprop(Φ none ∗ bigSep Finset.univ fun i => Φ (some i)) := by
  rw [bigSep_univ_at Φ none, show (Finset.univ : Finset (Option I)).erase none = Finset.univ.map Function.Embedding.some from by
    ext o; cases o <;> simp, bigSep_map]
  rfl

/-- A family over the counters of a device. -/
theorem over_cells (Φ : CellIx → sProp 𝕄) : bigSep Finset.univ Φ
    = iprop(Φ none ∗ (bigSep Finset.univ fun k : Slot => Φ (some (false, k))) ∗ bigSep Finset.univ fun k : Slot => Φ (some (true, k))) := by
  rw [over_option, bigSep_univ_prod, over_bool]

/-- A family over two indices, in either order. -/
theorem swapped {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun ij : I × J => Φ ij.1 ij.2), bigSep_univ_equiv (Equiv.prodComm J I), bigSep_univ_prod]
  rfl

/-! ## Counters and rights -/

def cells : Finset (GSem nD τ sig) :=
  Finset.univ.map ⟨fun ci : Dev nD × CellIx => cell ci.1 ci.2, fun _ _ h => Prod.ext (cell_inj h).1 (cell_inj h).2⟩

/-- A device's rights to raise: the barrier's by either partner, each message's by its one transfer. -/
abbrev Duty : Type := Bool ⊕ (Bool × Slot)
abbrev dutyOf (c : Dev nD) : Duty → GSem nD τ sig × ℕ × Bool
  | .inl b => (barCell c, 0, b)
  | .inr xk => (cell c (some xk), 0, false)

theorem dutyOf_inj {c d : Dev nD} {i j : Duty} (h : dutyOf c i = dutyOf d j) : c = d ∧ i = j := by
  rcases i with b | xk <;> rcases j with b' | xk' <;> obtain ⟨h1, h2⟩ := cell_inj (congrArg Prod.fst h)
  · exact ⟨h1, congrArg Sum.inl (congrArg (fun x => x.2.2) h)⟩
  · cases h2
  · cases h2
  · exact ⟨h1, congrArg Sum.inr (Option.some.inj h2)⟩

def duties : Finset (GSem nD τ sig × ℕ × Bool) :=
  Finset.univ.map ⟨fun ci : Dev nD × Duty => dutyOf ci.1 ci.2, fun _ _ h => Prod.ext (dutyOf_inj h).1 (dutyOf_inj h).2⟩

/-- The program's ghost state at the start. -/
def u₀ : UU := (initOf (Pipeline.cells cfgs cellOf_inj) (Pipeline.launchToks cfgs cellOf_inj), initOf cells duties)

/-- The rights to raise device `c`'s own counters. -/
def minted (c : Dev nD) : sProp 𝕄 :=
  iprop((bigSep Finset.univ fun b : Bool => dutyTok ER (barCell c) 0 b)
    ∗ (bigSep Finset.univ fun k : Slot => dutyTok ER (sendCell c k) 0 false) ∗ bigSep Finset.univ fun k : Slot => dutyTok ER (recvCell c k) 0 false)

/-- The rights that device `c` raises with. -/
def raised (c : Dev nD) : sProp 𝕄 :=
  iprop((bigSep Finset.univ fun b : Bool => dutyTok ER (barCell (peer b c)) 0 b)
    ∗ (bigSep Finset.univ fun k : Slot => dutyTok ER (sendCell c k) 0 false)
    ∗ bigSep Finset.univ fun k : Slot => dutyTok ER (recvCell (peer (side k) c) k) 0 false)

/-- What the start makes for device `c`. -/
def made (c : Dev nD) : sProp 𝕄 :=
  iprop((bigSep Finset.univ fun i : CellIx => roundState ER (sched m) (cell c i) 0)
    ∗ (bigSep Finset.univ fun i : CellIx => iprop(atPos ER (cell c i) 0 ∅ 0 ∗ reached ER (cell c i) 0)) ∗ minted c)

/-- Device `c`'s places at its own counters, and its rights. -/
def places (c : Dev nD) : sProp 𝕄 := iprop((bigSep Finset.univ fun i : CellIx => atPos ER (cell c i) 0 ∅ 0) ∗ raised c)

/-- What device `c` gets once all devices' counters are set up. -/
def given (c : Dev nD) : sProp 𝕄 := iprop(∃ K, records m K ∗ places c)

theorem make : BI.own (ER (initOf cells duties)) ⊢ (|==> bigSep Finset.univ (made m) : sProp 𝕄) := by
  have hX (Φ : GSem nD τ sig → sProp 𝕄) : bigSep cells Φ = bigSep Finset.univ fun c : Dev nD => bigSep Finset.univ fun i : CellIx => Φ (cell c i) := by
    unfold cells; rw [bigSep_map, bigSep_univ_prod]; rfl
  have hT : bigSep duties (fun x => (dutyTok ER x.1 x.2.1 x.2.2 : sProp 𝕄)) = bigSep Finset.univ fun c : Dev nD => minted c := by
    unfold duties; rw [bigSep_map, bigSep_univ_prod]
    refine bigSep_congr fun c _ => ?_
    unfold minted
    rw [bigSep_univ_sum, bigSep_univ_prod, over_bool (fun a => bigSep Finset.univ fun b : Slot => _)]
    rfl
  iintro HX
  imod (Rounds.fund ER (sched m) cells duties) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold made; simp only [bigSep_sep']
  iclose

/-- The messages' counters are the kernel's own, the barrier's is the program's. -/
theorem zeros_cells (c : Dev nD) :
    iprop(unscopedSems0 c ∗ Pipeline.ownSems0 (Ix := Unit) (Name := ℕ) (U := UU) (Lvl := ℕ) (Val := Elt F) (τ := τ) osem c)
      = (bigSep Finset.univ fun i : CellIx => semVal (cell c i) 0 : sProp 𝕄) := by
  rw [over_option]
  unfold unscopedSems0 Pipeline.ownSems0
  rw [bigSep_eq_bigSepL_of_eq [SemLoc.reg barS] (by decide) (by decide)]; rfl

/-- One device's counters are put under the schedule. -/
theorem set_up (c : Dev nD) :
    iprop(Pipeline.ownSems0 (Ix := Unit) (Name := ℕ) (U := UU) (Lvl := ℕ) (Val := Elt F) (τ := τ) osem c ∗ unscopedSems0 c ∗ made m c)
      ⊢ |={Set.univ}=> iprop((bigSep Finset.univ fun i : CellIx => iprop(∃ κ : ℕ, cellInv ER (sched m) κ (cell c i)))
          ∗ (bigSep Finset.univ fun i : CellIx => iprop(atPos ER (cell c i) 0 ∅ 0 ∗ reached ER (cell c i) 0)) ∗ minted c) := by
  have ha : iprop((bigSep Finset.univ fun i : CellIx => semVal (cell c i) 0) ∗ bigSep Finset.univ fun i : CellIx => roundState ER (sched m) (cell c i) 0)
      ⊢ (|={Set.univ}=> bigSep Finset.univ fun i : CellIx => iprop(∃ κ : ℕ, cellInv ER (sched m) κ (cell c i)) : sProp 𝕄) := by
    rw [← bigSep_sep']
    exact (bigSep_mono fun i _ => (Rounds.body_intro ER (sched m) (cell c i)).trans inv_alloc).trans (bigSep_fupd _ _)
  unfold made
  iintro ⟨Hos, Hus, Hst, Hat, Htok⟩
  ihave Hv := (Entails.of_eq (zeros_cells (F := F) c)) $$ [Hos Hus]
  · isplitl [Hus] <;> iassumption
  imod ha $$ [Hv Hst] with Hinv
  · isplitl [Hv] <;> iassumption
  imodintro
  iclose

/-- Every right goes to the device that raises with it. -/
theorem pass_on : (bigSep Finset.univ fun c : Dev nD => (minted c : sProp 𝕄)) ⊢ bigSep Finset.univ fun c : Dev nD => raised c := by
  have hb : (bigSep Finset.univ fun c : Dev nD => bigSep Finset.univ fun b : Bool => (dutyTok ER (barCell c) 0 b : sProp 𝕄))
      = bigSep Finset.univ fun c : Dev nD => bigSep Finset.univ fun b : Bool => dutyTok ER (barCell (peer b c)) 0 b := by
    rw [swapped, swapped fun (c : Dev nD) (b : Bool) => (dutyTok ER (barCell (peer b c)) 0 b : sProp 𝕄)]
    exact bigSep_congr fun b _ => bigSep_univ_equiv (peerEquiv b) _
  have hr : (bigSep Finset.univ fun c : Dev nD => bigSep Finset.univ fun k : Slot => (dutyTok ER (recvCell c k) 0 false : sProp 𝕄))
      = bigSep Finset.univ fun c : Dev nD => bigSep Finset.univ fun k : Slot => dutyTok ER (recvCell (peer (side k) c) k) 0 false := by
    rw [swapped, swapped fun (c : Dev nD) (k : Slot) => (dutyTok ER (recvCell (peer (side k) c) k) 0 false : sProp 𝕄)]
    exact bigSep_congr fun k _ => bigSep_univ_equiv (peerEquiv (side k)) _
  unfold minted raised
  rw [bigSep_sep', bigSep_sep', bigSep_sep', bigSep_sep', hb, hr]

/-- A fact that everybody may use is added to every member of a family. -/
theorem with_fact {I : Type} [DecidableEq I] (S : Finset I) (R : sProp 𝕄) [BI.Persistent R] (Φ : I → sProp 𝕄) :
    iprop(R ∗ bigSep S Φ) ⊢ bigSep S fun i => iprop(R ∗ Φ i) := by
  rw [bigSep_sep']
  have h : R ⊢ bigSep S fun _ => R := BI.bigSep_of_persistent S R
  iintro ⟨H1, H2⟩
  isplitl [H1]
  · iapply h; iexact H1
  iexact H2

/-- All devices' counters under the schedule, each device gets its part. -/
theorem hand_out :
    (bigSep Finset.univ fun c : Dev nD => iprop((bigSep Finset.univ fun i : CellIx => iprop(∃ κ : ℕ, cellInv ER (sched m) κ (cell c i)))
          ∗ (bigSep Finset.univ fun i : CellIx => iprop(atPos ER (cell c i) 0 ∅ 0 ∗ reached ER (cell c i) 0)) ∗ minted c) : sProp 𝕄)
      ⊢ bigSep Finset.univ (given m) := by
  rw [bigSep_sep', bigSep_sep', ← bigSep_univ_prod (fun ci : Dev nD × CellIx => iprop(∃ κ : ℕ, cellInv ER (sched m) κ (cell ci.1 ci.2))),
    bigSep_congr (s := Finset.univ) (fun (c : Dev nD) _ => bigSep_sep' Finset.univ (fun i : CellIx => (atPos ER (cell c i) 0 ∅ 0 : sProp 𝕄)) (fun i => reached ER (cell c i) 0)),
    bigSep_sep', ← bigSep_univ_prod (fun ci : Dev nD × CellIx => (reached ER (cell ci.1 ci.2) 0 : sProp 𝕄))]
  iintro ⟨HI, ⟨Hat, #HR⟩, Htok⟩
  ihave HK := (BI.bigSep_exists_pi Finset.univ (fun (ci : Dev nD × CellIx) (κ : ℕ) => (cellInv ER (sched m) κ (cell ci.1 ci.2) : sProp 𝕄))) $$ HI
  icases HK with ⟨%K, #HI⟩
  ihave Htk := (pass_on (F := F)) $$ Htok
  have hg : (bigSep Finset.univ fun c : Dev nD => iprop(records m K ∗ places c)) ⊢ (bigSep Finset.univ (given m) : sProp 𝕄) := bigSep_mono fun c _ => by
    show iprop(records m K ∗ places c) ⊢ given m c
    unfold given
    iintro H; iexists K; iexact H
  iapply hg
  iapply (with_fact Finset.univ (records m K) places)
  isplitr
  · unfold records; isplitl; · iexact HI
    iexact HR
  · unfold places
    rw [bigSep_sep']
    isplitl [Hat]; · iexact Hat
    iexact Htk

/-- The two together, for all devices at once. -/
theorem deal : (bigSep Finset.univ fun c => iprop(Pipeline.ownSems0 (Ix := Unit) (Name := ℕ) (U := UU) (Lvl := ℕ) (Val := Elt F) (τ := τ) osem c ∗ unscopedSems0 c ∗ made m c) : sProp 𝕄)
    ⊢ |={Set.univ}=> bigSep Finset.univ (given m) :=
  ((bigSep_mono fun c _ => set_up m c).trans (bigSep_fupd _ _)).trans (BI.fupd_mono (hand_out m))

/-! ## What the others owe a device -/

theorem owe_bar (d c : Dev nD) (l : List Slot) : owe d l (barCell c) () = 0 := by
  rcases Nat.eq_zero_or_pos (owe d l (barCell c) ()) with h | h
  · exact h
  · obtain ⟨k, -, e⟩ := owe_pos h
    cases (cell_inj e).2

/-- A device whose list of messages has no repetitions owes an arrival once if the message is in the list and goes there. -/
theorem owe_recv (d c : Dev nD) (k : Slot) (l : List Slot) (hl : l.Nodup) :
    owe d l (recvCell c k) () = if k ∈ l ∧ d = peer (side k) c then N k else 0 := by
  induction l with
  | nil => rw [if_neg fun h => by cases h.1]; rfl
  | cons k' l ih =>
    obtain ⟨hk', hl'⟩ := List.nodup_cons.mp hl
    unfold owe
    rw [Pi.add_apply, Finsupp.add_apply, ih hl', tallyAt_apply]
    by_cases e : k = k'
    · subst e
      rw [if_neg fun h => hk' h.1, Nat.zero_add]
      by_cases h : d = peer (side k) c
      · rw [if_pos ⟨by rw [h, peer_peer], rfl⟩, if_pos ⟨List.mem_cons_self, h⟩]
      · have h1 : ¬ (recvCell c k = recvCell (peer (side k) d) k ∧ () = ()) := fun h' => h (eq_peer_comm.mp (cell_inj (i := some (true, k)) (j := some (true, k)) h'.1).1)
        have h2 : ¬ (k ∈ k :: l ∧ d = peer (side k) c) := fun h' => h h'.2
        rw [if_neg h1, if_neg h2]
    · have h1 : ¬ (recvCell c k = recvCell (peer (side k') d) k' ∧ () = ()) := fun h' =>
        e (congrArg Prod.snd (Option.some.inj (cell_inj (i := some (true, k)) (j := some (true, k')) h'.1).2))
      rw [if_neg h1, Nat.add_zero]
      refine if_congr ⟨fun h => ⟨List.mem_cons_of_mem _ h.1, h.2⟩, fun h => ⟨(List.mem_cons.mp h.1).resolve_left e, h.2⟩⟩ rfl rfl

theorem tally_bar (d c : Dev nD) (b : Bool) : (tallyAt (barCell (peer b d)) () 1 : CellTallies nD τ sig Unit) (barCell c) () = if d = peer b c then 1 else 0 := by
  rw [tallyAt_apply]
  refine if_congr ⟨fun h => eq_peer_comm.mp (cell_inj h.1).1, fun h => ⟨by rw [h, peer_peer], rfl⟩⟩ rfl rfl

theorem tally_recv (d c : Dev nD) (k : Slot) : (tallyAt (barCell d) () 1 : CellTallies nD τ sig Unit) (recvCell c k) () = 0 := by
  rw [tallyAt_apply, if_neg fun h => by cases (cell_inj h.1).2]

theorem owed_bar (d c : Dev nD) : O₀ d (barCell c) () = (if d = peer true c then 1 else 0) + (if d = peer false c then 1 else 0) := by
  unfold O₀
  rw [Pi.add_apply, Finsupp.add_apply, Pi.add_apply, Finsupp.add_apply, owe_bar, tally_bar, tally_bar, Nat.zero_add]

theorem owed_recv (d c : Dev nD) (k : Slot) : O₀ d (recvCell c k) () = if d = peer (side k) c then N k else 0 := by
  unfold O₀
  rw [Pi.add_apply, Finsupp.add_apply, Pi.add_apply, Finsupp.add_apply, owe_recv d c k order (by decide), tally_recv, tally_recv]
  simp only [Nat.add_zero]
  refine if_congr ⟨fun h => h.2, fun h => ⟨(by decide : ∀ k : Slot, k ∈ order) k, h⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (peer true c) fun _ => 1, Finset.sum_ite_eq' Finset.univ (peer false c) fun _ => 1, if_pos (Finset.mem_univ _), if_pos (Finset.mem_univ _)]

theorem launch_recv (c : Dev nD) (k : Slot) :
    tallyOn (recvCell c k) (launchCredit (Pipeline.owing O₀) 0 (recvCell c k)) = (tallyAt (recvCell c k) () (N k) : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (peer (side k) c) fun _ => N k, if_pos (Finset.mem_univ _)]

/-- The counters a device waits at for what others owe it. -/
abbrev waitedAt : Option Slot ↪ SemLoc sig :=
  ⟨fun o => csem (o.map fun k => (true, k)), fun a b h => by
    have := csem_inj h
    rcases a with _ | a <;> rcases b with _ | b
    · rfl
    · cases this
    · cases this
    · exact congrArg some (congrArg Prod.snd (Option.some.inj this))⟩

/-- What device `c` may wait for: two units of the barrier's and every message. -/
def dues (c : Dev nD) : sProp 𝕄 :=
  iprop(cred (tallyAt (barCell c) () 2) ∗ bigSep Finset.univ fun k : Slot => cred (tallyAt (recvCell c k) () (N k)))

theorem dues_intro (c : Dev nD) : (Pipeline.launchCred O₀ c : sProp 𝕄) ⊢ dues c := by
  unfold Pipeline.launchCred dues
  refine (bigSep_subset (Finset.subset_univ (Finset.univ.map waitedAt))).trans ?_
  rw [bigSep_map, over_option]
  have h1 := congrArg (fun t => (cred t : sProp 𝕄)) (launch_bar c)
  have h2 (k : Slot) := congrArg (fun t => (cred t : sProp 𝕄)) (launch_recv c k)
  exact BI.sep_mono (Entails.of_eq h1) (bigSep_mono fun k _ => Entails.of_eq (h2 k))

end Cert.Exchange

end
-- ==== Proof.Run.lean ====
/-
  The whole program on all four devices: it ends, the operands keep their contents, the result's array holds the
  computed rows, and every counter is back at zero.
-/
module

public import proofs.«01_k».proof.Proof.Deal
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- What device `c` starts with besides its buffers. -/
def start (c : Dev nD) : sProp 𝕄 := iprop(given m c ∗ dues c ∗ levAts L lv)

/-- The send and the receive buffer, with any contents. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

def before (c : Dev nD) : sProp 𝕄 := iprop(start m c ∗ scratch c)

/-- All its counters at zero for good, and the buffers back. -/
def after (c : Dev nD) : sProp 𝕄 := iprop((bigSep Finset.univ fun i : CellIx => semVal (cell c i) 0) ∗ scratch (F := F) c)

/-- The run of one device's kernel: contents before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => aAt m c
    | ⟨2, _⟩ => bAt m c
    | ⟨3, _⟩ => outAt m c
  Φ t := match t with
    | ⟨0, _⟩ => before m c
    | ⟨_ + 1, _⟩ => after c
  q _ := fullShare
  owed t := match t with
    | ⟨0, _⟩ => O₀ c
    | ⟨_ + 1, _⟩ => 0

abbrev t₀ : Fin cfg0.N := t0_0

theorem fetch_win : ∀ w : Fin cfg0.W, w.val < 3 → (cfg0.win w).fetch t₀ = true := by decide

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- Device `c`'s buffer `b` holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(before m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(after c ∗ (dats m ρ 0 c).owesAt () t₀.succ ∗ stg c cc0_stg0_0 (xAt m c) ∗ stg c cc0_stg1_0 (aAt m c)
    ∗ stg c cc0_stg2_0 (bAt m c) ∗ stg c cc0_stg3_0 (outAt m c))

/-- The six chunks are all rows of the result. -/
theorem rows_cover (y : S768x768.Idx) : ∃ j : Fin 6, y ∈ (rowRect j).set := by
  have hy : (y 0).val < 768 := (y 0).isLt
  have hy1 : (y 1).val < 768 := (y 1).isLt
  obtain ⟨j, h1, h2⟩ : ∃ j : Fin 6, offs j ≤ (y 0).val ∧ (y 0).val < offs j + rows j := by
    by_cases h1 : (y 0).val < 160; · exact ⟨0, Nat.zero_le _, by show (y 0).val < 0 + 160; omega⟩
    by_cases h2 : (y 0).val < 320; · exact ⟨1, by show 160 ≤ (y 0).val; omega, by show (y 0).val < 160 + 160; omega⟩
    by_cases h3 : (y 0).val < 480; · exact ⟨2, by show 320 ≤ (y 0).val; omega, by show (y 0).val < 320 + 160; omega⟩
    by_cases h4 : (y 0).val < 640; · exact ⟨3, by show 480 ≤ (y 0).val; omega, by show (y 0).val < 480 + 160; omega⟩
    by_cases h5 : (y 0).val < 736; · exact ⟨4, by show 640 ≤ (y 0).val; omega, by show (y 0).val < 640 + 96; omega⟩
    exact ⟨5, by show 736 ≤ (y 0).val; omega, by show (y 0).val < 736 + 32; omega⟩
  refine ⟨j, ?_⟩
  rw [LoadRect.mem_set]
  intro a
  match a with
  | 0 => exact ⟨(y 0).val - offs j, by show (y 0).val - offs j < rows j; omega, by show (y 0).val = offs j + 1 * ((y 0).val - offs j); omega⟩
  | 1 => exact ⟨(y 1).val, hy1, by show (y 1).val = 0 + 1 * (y 1).val; omega⟩

theorem mem_outPieces (c : Dev nD) (j : Fin 6) : (⟨rowRect j, outRow m c j⟩ : View.Piece (Elt F) S768x768 .f32) ∈ outPieces m c := by
  unfold outPieces
  fin_cases j <;> simp

/-- So the stores leave the same contents whatever was there before. -/
theorem out_any (c : Dev nD) (f : Buf (Elt F) ((c : Thread nD τ).loc cc0_stg3_0)) : oM.view.writes (Elt F) f (outPieces m c) = outAt m c := by
  have h := View.read_writes_of_cover oM.view f oM.view (m ((c : Thread nD τ).loc cc0_stg3_0)) (outPieces m c)
    (fun y => by obtain ⟨j, hj⟩ := rows_cover y; exact ⟨_, mem_outPieces m c j, hj⟩)
  rw [View.read_whole, View.read_whole] at h
  exact h

theorem result_out (c : Dev nD) : result m c 0 ⊢ (((c : Thread nD τ).loc cc0_stg3_0) ↦{fullShare} outAt m c : sProp 𝕄) := by
  unfold result
  iintro ⟨%f, H⟩
  rw [List.drop_zero, out_any]
  iexact H

theorem result_in (c : Dev nD) (f : Buf (Elt F) ((c : Thread nD τ).loc cc0_stg3_0)) :
    (((c : Thread nD τ).loc cc0_stg3_0) ↦{fullShare} f : sProp 𝕄) ⊢ result m c 6 := by
  unfold result
  iintro H
  iexists f
  iexact H

/-- Rights and places, message by message. -/
theorem places_sort (c : Dev nD) : iprop(places c ∗ dues (F := F) c)
    ⊢ iprop(dutyTok ER (barCell (peer false c)) 0 false ∗ dutyTok ER (barCell (peer true c)) 0 true
      ∗ (cred (tallyAt (barCell c) () 2) ∗ atPos ER (barCell c) 0 ∅ 0)
      ∗ (bigSep Finset.univ fun k : Slot => toSend (F := F) c k) ∗ (bigSep Finset.univ fun k : Slot => toGet (F := F) c k)) := by
  unfold places raised dues toSend toGet
  rw [bigSep_sep', bigSep_sep', bigSep_sep', over_cells, over_bool]
  iintro ⟨⟨⟨H1, H2, H3⟩, ⟨H4, H5⟩, H6, H7⟩, H8, H9⟩
  iclose

set_option maxHeartbeats 800000 in
/-- The body's run from what the start gives to what the end takes. -/
theorem body_runs (c : Dev nD) (Q : PUnit → sProp 𝕄) :
    iprop(bodyPre m ρ c ∗ (bodyPost m ρ c -∗ Q ⟨⟩))
      ⊢ runs c (cc0_body (F := F) xM (Memref.isWhole_whole _) aM (Memref.isWhole_whole _) bM (Memref.isWhole_whole _)
          oM (Memref.isWhole_whole _) sM (Memref.isWhole_whole _) rM (Memref.isWhole_whole _) cc0_scratch2 cc0_scratch3) Q := by
  unfold bodyPre before start given scratch Dat.owesAt Pipeline.owesWithin
  iintro ⟨⟨⟨⟨⟨%K, #HR, Hpl⟩, Hdu, #HL⟩, Hs, Hr⟩, ⟨%W, %hW, HO⟩, ⟨%d0, %g0, %hg0, Hx⟩, ⟨%d1, %g1, %hg1, Ha⟩, ⟨%d2, %g2, %hg2, Hb⟩, ⟨%d3, %g3, %hg3, Ho⟩⟩, Hk⟩
  have hx : g0 = xAt m c := by rw [hg0]; unfold Dat.before; rw [if_pos (fetch_win (0 : Fin 4) (by decide))]; rfl
  have ha : g1 = aAt m c := by rw [hg1]; unfold Dat.before; rw [if_pos (fetch_win (1 : Fin 4) (by decide))]; rfl
  have hb : g2 = bAt m c := by rw [hg2]; unfold Dat.before; rw [if_pos (fetch_win (2 : Fin 4) (by decide))]; rfl
  subst hx; subst ha; subst hb
  rw [show (dats m ρ 0 c).owed t₀.castSucc = O₀ c from rfl]
  ihave Hpd := (places_sort c) $$ [Hpl Hdu]
  · isplitl [Hpl] <;> iassumption
  icases Hpd with ⟨Ht1, Ht2, Hbar, HT, HG⟩
  ihave Hs' := (cut sM c) $$ Hs
  icases Hs' with ⟨Hs, Hsr⟩
  ihave Hr' := (cut rM c) $$ Hr
  icases Hr' with ⟨Hr, Hrr⟩
  ihave Ho := (result_in m c g3) $$ Ho
  iapply (run_body m K c Q) $$ [HO Hx Ha Hb Ho Ht1 Ht2 Hbar HT HG Hs Hr]
  · isplitr; · iexact HR
    isplitr; · iexact HL
    unfold entry operands owing
    isplitl [Hx Ha Hb]
    · isplitl [Hx]; · iexact Hx
      isplitl [Ha]; · iexact Ha
      iexact Hb
    isplitl [Ho]; · iexact Ho
    isplitl [Ht1]; · iexact Ht1
    isplitl [Ht2]; · iexact Ht2
    isplitl [Hbar]; · iexact Hbar
    isplitl [HT]; · iexact HT
    isplitl [HG]; · iexact HG
    isplitl [Hs]; · iexact Hs
    isplitl [Hr]; · iexact Hr
    iexists W; iexact HO
  unfold exit operands owing departed arrived
  rw [bigSep_sep', bigSep_sep']
  iintro ⟨⟨Hx, Ha, Hb⟩, Ho, Hz, ⟨Hs, Hzs⟩, ⟨Hr, Hzr⟩, ⟨%W', HO⟩⟩
  ihave Ho := (result_out m c) $$ Ho
  have hfree : (bigSep Finset.univ fun k : Slot => holds rM c k (got m c k)) ⊢ (bigSep Finset.univ fun k : Slot => free rM c k : sProp 𝕄) :=
    bigSep_mono fun k _ => holds_free rM c k _
  ihave Hr := hfree $$ Hr
  ihave Hs := (join sM c) $$ [Hs Hsr]
  · isplitl [Hs] <;> iassumption
  ihave Hr := (join rM c) $$ [Hr Hrr]
  · isplitl [Hr] <;> iassumption
  iapply Hk
  unfold bodyPost after scratch Dat.owesAt Pipeline.owesWithin
  rw [over_cells, show (dats m ρ 0 c).owed t₀.succ = owe c [] from rfl]
  isplitl [Hz Hzs Hzr Hs Hr]
  · isplitl [Hz Hzs Hzr]
    · isplitl [Hz]; · iexact Hz
      isplitl [Hzs] <;> iassumption
    isplitl [Hs]; · iexact Hs
    iexact Hr
  isplitl [HO]
  · iexists W'
    isplitr; · ipureintro; exact fun _ _ => Or.inl trivial
    iexact HO
  isplitl [Hx]
  · iexists _; isplitr; · (ipureintro; rfl)
    iexact Hx
  isplitl [Ha]
  · iexists _; isplitr; · (ipureintro; rfl)
    iexact Ha
  isplitl [Hb]
  · iexists _; isplitr; · (ipureintro; rfl)
    iexact Hb
  iexists _; isplitr; · (ipureintro; rfl)
  iexact Ho

attribute [local irreducible] xAt aAt bAt outAt

/-- The one point's program is the kernel's body on the staging buffers. -/
theorem point_body : defs₀ (F := F) Proc.tc 0 (t₀, cfg0.slots t₀)
    = cc0_body (F := F) xM (Memref.isWhole_whole _) aM (Memref.isWhole_whole _) bM (Memref.isWhole_whole _)
          oM (Memref.isWhole_whole _) sM (Memref.isWhole_whole _) rM (Memref.isWhole_whole _) cc0_scratch2 cc0_scratch3 := rfl

theorem pre_eq (c : Dev nD) : bodyPre m ρ c = iprop((dats m ρ 0 c).Φ t₀.castSucc ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d))) := rfl

theorem post_eq (c : Dev nD) : bodyPost m ρ c = iprop((dats m ρ 0 c).Φ t₀.succ ∗ (dats m ρ 0 c).owesAt () t₀.succ
    ∗ stg c cc0_stg0_0 ((dats m ρ 0 c).after (0 : Fin 4) t₀) ∗ stg c cc0_stg1_0 ((dats m ρ 0 c).after (1 : Fin 4) t₀)
    ∗ stg c cc0_stg2_0 ((dats m ρ 0 c).after (2 : Fin 4) t₀) ∗ stg c cc0_stg3_0 ((dats m ρ 0 c).after (3 : Fin 4) t₀)) := rfl

/-- What the launch asks of the body. -/
theorem body_obligation (c : Dev nD) : BodyObligation (dats (F := F) m ρ 0 c) (defs₀ (F := F)) 𝒱₀ () Set.univ := fun t => by
  rw [fin_N0 t]
  rw [bigSep_W0, bigSep_W0]
  have h := body_runs m ρ c fun _ => bodyPost m ρ c
  rw [← point_body] at h
  have h' : bodyPre m ρ c ⊢ runs c (defs₀ (F := F) Proc.tc 0 (t₀, cfg0.slots t₀)) fun _ => bodyPost m ρ c := by
    iintro H
    iapply h
    isplitl [H]; · iexact H
    iintro H; iexact H
  rw [pre_eq, post_eq] at h'
  simp only [owns_whole_eq]
  exact h'

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m c)
      ⊢ |={Set.univ}=> iprop(start m c ∗ emp) := by
  iintro ⟨-, Hlev, Hcr, -, HG⟩
  ihave Hc := (dues_intro (F := F) c) $$ Hcr
  imodintro
  unfold start
  isplitl
  · isplitl [HG]; · iexact HG
    isplitl [Hc]; · iexact Hc
    iexact Hlev
  · iempintro

theorem before_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before scratch
  iintro ⟨Hs, -, Hr⟩
  isplitl [Hs]; · iexact Hs
  iexact Hr

theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq]
  unfold after scratch
  rw [← zeros_cells]
  iintro ⟨⟨H1, H2⟩, H3⟩
  isplitl [H1]; · iexact H1
  isplitl [H2]; · iexact H2
  iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide +kernel) _ (by
      rcases t with ⟨_ | _, ht⟩
      · exact Or.inl rfl
      · exact Or.inr rfl)

/-! ## The run -/

/-- What the operands' and the result's arrays hold in the end. -/
def finalA (c : Dev nD) (w : Fin cfg0.W) : Buf (Elt F) ((cfg0.win w).arr.view.loc (c : Thread nD τ)) := (dats m ρ 0 c).arrAt w cfg0.N

/-- From any memory with all counters at zero the program runs to an end on every schedule; in the end every
    operand's and result's array holds the computed contents and all counters are at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := made m) (G' := given m) (u₀ := u₀)
    (hu₀ := by
      unfold u₀
      iintro Hu
      ihave H := (ownU_pair _ _) $$ Hu
      icases H with ⟨HP, HX⟩
      imod (make m) $$ HX with HG
      imodintro
      isplitl [HP] <;> iassumption)
    (hglob := deal m)
    (hA := fun _ _ => rfl) (hpf := fun _ k => k.elim0)
    (X := start m) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array ends with what it held. -/
theorem finalA_in (c : Dev nD) (w : Fin cfg0.W) (hw : w.val < 3) : finalA m ρ c w = m ((cfg0.win w).arr.view.loc (c : Thread nD τ)) :=
  (dats (F := F) m ρ 0 c).arrAt_in w (by revert w; decide) _

end Cert.Exchange

end
-- ==== Proof.Value.lean ====
/-
  What the kernel computes with exact numbers: on every device the result is the sum of the four devices' partial
  products.
-/
module

public import proofs.«01_k».proof.Proof.Run
public import Idealize.ShloMosaic.Lib.MatmulPlain
public import Idealize.ShloMosaic.Lib.Pipeline.Value

@[expose] public section

set_option maxRecDepth 16384

noncomputable section

namespace Cert.Exchange

open Cert.KernelIdeal Cert.KernelIdeal.Gen

open Idealize.ShloMosaic
open Idealize.ShloMosaic.TcCoe
open Idealize.ShloMosaic.ValueIdx
open scoped BigOperators

/-! ## One chunk's product -/

/-- `n` rows of the operand taken through the two products, as the kernel does it. -/
def product {F : FTy → Type} [FloatOps F] {n : ℕ} (xs : FVec F ⟨2, ![n, 768]⟩ .bf16) (a : FVec F S768x1536 .bf16)
    (b : FVec F S1536x768 .bf16) : FVec F ⟨2, ![n, 768]⟩ .f32 :=
  matmul (DotDims.plain n 1536 768) none
    (truncf .bf16 (maximumf (matmul (DotDims.plain n 768 1536) none xs a (constant ⟨2, ![n, 1536]⟩ .f32 0x00000000#32))
      (broadcast ⟨2, ![n, 1536]⟩ (Scalar.ofBits .f32 0x00000000#32))) bitsLt_bf16_f32)
    b (constant ⟨2, ![n, 768]⟩ .f32 0x00000000#32)

theorem product_apply {n : ℕ} (xs : FVec Ideal ⟨2, ![n, 768]⟩ .bf16) (a : FVec Ideal S768x1536 .bf16)
    (b : FVec Ideal S1536x768 .bf16) (p : Fin n) (q : Fin 768) :
    product xs a b (ix2 p q)
      = ∑ r : Fin 1536, max (∑ t : Fin 768, xs (ix2 p t) * a (ix2 t r)) 0 * b (ix2 r q) := by
  have z (i) : constant (F := Ideal) ⟨2, ![n, 768]⟩ .f32 0x00000000#32 i = 0 := Ideal.ofBits_zero_f32
  have z' (i) : constant (F := Ideal) ⟨2, ![n, 1536]⟩ .f32 0x00000000#32 i = 0 := Ideal.ofBits_zero_f32
  refine (Ideal.matmul_plain_apply _ _ _ _ _ _).trans ?_
  rw [z, zero_add]
  refine Finset.sum_congr rfl fun r _ => congrArg (· * b (ix2 r q)) ?_
  refine congrArg₂ max ((Ideal.matmul_plain_apply _ _ _ _ _ _).trans ?_) Ideal.ofBits_zero_f32
  rw [z', zero_add]

section Any

variable {F : FTy → Type} [FloatOps F]

variable (m : (ℓ : Loc nD τ sig) → Buf (Elt F) ℓ)

theorem first_rows (x : Vec F S160x768 .bf16) (a : Vec F S768x1536 .bf16) (b : Vec F S1536x768 .bf16) :
    k0_pay9 (k0_pay1 a) (k0_pay2 b) x = product x a b := by
  simp only [k0_pay9, k0_pay1, k0_pay2, shapeCast_self]; rfl

theorem next_rows (x : Vec F S96x768 .bf16) (a : Vec F S768x1536 .bf16) (b : Vec F S1536x768 .bf16) :
    k0_pay15 (k0_pay1 a) (k0_pay2 b) x = product x a b := by
  simp only [k0_pay15, k0_pay1, k0_pay2, shapeCast_self]; rfl

theorem last_rows (x : Vec F S32x768 .bf16) (a : Vec F S768x1536 .bf16) (b : Vec F S1536x768 .bf16) :
    k0_pay20 (k0_pay1 a) (k0_pay2 b) x = product x a b := by
  simp only [k0_pay20, k0_pay1, k0_pay2, shapeCast_self]; rfl

theorem part0_eq (c : Dev nD) (j : Fin 6) : part0 m c j = product (xRow m c j) (aAt m c) (bAt m c) := by
  match j with
  | 0 | 1 | 2 | 3 => exact first_rows _ _ _
  | 4 => exact next_rows _ _ _
  | 5 => exact last_rows _ _ _

theorem casts (j : Fin 6) : (⟨2, ![rows j, 768]⟩ : Shape).ShapeCasts ⟨4, ![1, 1, rows j, 768]⟩ := by revert j; decide

theorem casts' (j : Fin 6) : (⟨4, ![1, 1, rows j, 768]⟩ : Shape).ShapeCasts ⟨2, ![rows j, 768]⟩ := by revert j; decide

/-- What is sent of a chunk: its values rounded, in the message's shape. -/
def packed {j : Fin 6} (v : Sum F j) : FVec F ⟨4, ![1, 1, rows j, 768]⟩ .bf16 :=
  shapeCast ⟨4, ![1, 1, rows j, 768]⟩ (truncf .bf16 v bitsLt_bf16_f32) (casts j)

/-- A chunk with a received message added to it. -/
def plus {j : Fin 6} (v : Sum F j) (g : FVec F ⟨4, ![1, 1, rows j, 768]⟩ .bf16) : Sum F j :=
  addf v (extf .f32 (shapeCast ⟨2, ![rows j, 768]⟩ g (casts' j)) bitsLt_bf16_f32)

theorem val0_eq (c : Dev nD) (j : Fin 6) : val0 m c j = packed (part0 m c j) := by
  match j with
  | 0 | 1 | 2 | 3 | 4 | 5 => rfl

theorem part1_eq (c : Dev nD) (j : Fin 6) : part1 m c j = plus (part0 m c j) (got0 m c j) := by
  match j with
  | 0 | 1 | 2 | 3 | 4 | 5 => rfl

theorem val1_eq (c : Dev nD) (j : Fin 6) : val1 m c j = packed (part1 m c j) := by
  match j with
  | 0 | 1 | 2 | 3 | 4 | 5 => rfl

theorem outRow_eq (c : Dev nD) (j : Fin 6) : outRow m c j = plus (part1 m c j) (got m c (j, 1)) := by
  match j with
  | 0 | 1 | 2 | 3 | 4 | 5 => rfl

theorem got_one (c : Dev nD) (j : Fin 6) : got m c (j, 1) = val1 m (peer (side (j, 1)) c) j := rfl

end Any

/-! ## The sum over the devices -/

/-- With exact numbers a message adds the sender's chunk. -/
theorem plus_packed {j : Fin 6} (v w : Sum Ideal j) (x) : plus v (packed w) x = v x + w x := by
  show v x + shapeCast _ (shapeCast _ w (casts j)) (casts' j) x = _
  rw [shapeCast_shapeCast]

theorem side_one (j : Fin 6) : side (j, 1) = !side (j, 0) := by revert j; decide

/-- A device, its two neighbours and its neighbour's neighbour are all the devices. -/
theorem sum_peers (f : Dev nD → EReal) (s : Bool) (c : Dev nD) :
    f c + f (peer s c) + (f (peer (!s) c) + f (peer s (peer (!s) c))) = ∑ d : Dev nD, f d := by
  have h : ∀ (s : Bool) (c : Dev nD), (Finset.univ : Finset (Dev nD)) = {c, peer s c, peer (!s) c, peer s (peer (!s) c)}
      ∧ c ∉ ({peer s c, peer (!s) c, peer s (peer (!s) c)} : Finset (Dev nD))
      ∧ peer s c ∉ ({peer (!s) c, peer s (peer (!s) c)} : Finset (Dev nD))
      ∧ peer (!s) c ∉ ({peer s (peer (!s) c)} : Finset (Dev nD)) := by decide
  obtain ⟨hu, h0, h1, h2⟩ := h s c
  rw [hu, Finset.sum_insert h0, Finset.sum_insert h1, Finset.sum_insert h2, Finset.sum_singleton, add_assoc]

variable (m : (ℓ : Loc nD τ sig) → Buf (Elt Ideal) ℓ) (ρ : Dev nD → PrngReg)

/-- One number of the product of three matrices, the first product's negative numbers made zero. -/
def number {k : ℕ} (x : FVec Ideal S768x768 .bf16) (a : FVec Ideal ⟨2, ![768, k]⟩ .bf16) (b : FVec Ideal ⟨2, ![k, 768]⟩ .bf16)
    (p q : Fin 768) : EReal :=
  ∑ r : Fin k, max (∑ t : Fin 768, x (ix2 p t) * a (ix2 t r)) 0 * b (ix2 r q)

/-- Device `d`'s partial product at a place of the result. -/
def share (d : Dev nD) (y : S768x768.Idx) : EReal := number (xAt m d) (aAt m d) (bAt m d) (y 0) (y 1)

theorem part0_apply (c : Dev nD) (j : Fin 6) (x : (rowRect j).shape.Idx) :
    part0 m c j x = share m c ((rowRect j).emb x) := by
  obtain ⟨p, q, rfl⟩ : ∃ (p : Fin (rows j)) (q : Fin 768), x = ix2 p q := ⟨x 0, x 1, eq_ix2 x⟩
  have h1 : (rowRect j).emb (ix2 p q) 1 = q := Fin.ext (by simp)
  have h0 (t : Fin 768) : xRow m c j (ix2 p t) = xAt m c (ix2 ((rowRect j).emb (ix2 p q) 0) t) := by
    show xAt m c ((rowRect j).emb (ix2 p t)) = _
    refine congrArg (xAt m c) (funext fun a => Fin.ext ?_)
    match a with
    | 0 => rfl
    | 1 => simp
  have h := product_apply (n := rows j) (xRow m c j) (aAt m c) (bAt m c) p q
  rw [← part0_eq] at h
  refine h.trans ?_
  unfold share number
  refine Finset.sum_congr rfl fun r _ => congrArg₂ (· * ·) (congrArg (max · 0) (Finset.sum_congr rfl fun t _ => ?_)) ?_
  · exact congrArg (· * (aAt m c : FVec Ideal S768x1536 .bf16) (ix2 t r)) (h0 t)
  · exact congrArg (fun q => (bAt m c : FVec Ideal S1536x768 .bf16) (ix2 r q)) h1.symm

/-- The four devices' partial products together. -/
def total (y : S768x768.Idx) : EReal := ∑ d : Dev nD, share m d y

theorem outRow_apply (c : Dev nD) (j : Fin 6) (x : (rowRect j).shape.Idx) :
    outRow m c j x = total m ((rowRect j).emb x) := by
  have h (c : Dev nD) : part1 m c j x
      = share m c ((rowRect j).emb x) + share m (peer (side (j, 0)) c) ((rowRect j).emb x) := by
    rw [part1_eq, got0, val0_eq, plus_packed, part0_apply, part0_apply]
  rw [outRow_eq, got_one, val1_eq, plus_packed, h, h, side_one]
  exact sum_peers (fun d => share m d ((rowRect j).emb x)) (side (j, 0)) c

theorem read_out (f : (cc0_stg3_0 : Ref sig .tc).ty.Contents (Elt Ideal)) (y : S768x768.Idx) :
    oM.view.read (Elt Ideal) f y = f y := rfl

theorem outAt_apply (c : Dev nD) (y : S768x768.Idx) : outAt m c y = total m y := by
  have h := View.read_writes_apply_of_pieces (Val := Elt Ideal) oM.view (m ((c : Thread nD τ).loc cc0_stg3_0)) (total m)
    (outPieces m c) (fun p hp x => by
      unfold outPieces at hp
      simp only [List.mem_cons, List.not_mem_nil, or_false] at hp
      rcases hp with rfl | rfl | rfl | rfl | rfl | rfl <;> exact outRow_apply m c _ x) y
    (by obtain ⟨j, hj⟩ := rows_cover y; exact ⟨_, mem_outPieces m c j, hj⟩)
  exact (read_out _ y).symm.trans h

end Cert.Exchange

end
-- ==== Proof.Whole.lean ====
/-
  The arrays around the kernel: each operand is fetched whole, and the result's array receives the result whole.
-/
module

public import proofs.«01_k».proof.Proof.Value

@[expose] public section

set_option maxRecDepth 16384

noncomputable section

namespace Cert.Exchange

open Cert.KernelIdeal Cert.KernelIdeal.Gen

open Idealize.ShloMosaic
open Idealize.ShloMosaic.TcCoe

variable {F : FTy → Type} [FloatOps F]

variable (m : (ℓ : Loc nD τ sig) → Buf (Elt F) ℓ) (ρ : Dev nD → PrngReg)

theorem xAt_eq (c : Dev nD) : xAt m c = m ((c : Thread nD τ).loc main_arg0) :=
  Memref.read_access_unit_zero (Elt F) main_arg0 (funext fun a => by fin_cases a <;> decide)
    (fun a => by fin_cases a <;> decide) _

theorem aAt_eq (c : Dev nD) : aAt m c = m ((c : Thread nD τ).loc main_arg1) :=
  Memref.read_access_unit_zero (Elt F) main_arg1 (funext fun a => by fin_cases a <;> decide)
    (fun a => by fin_cases a <;> decide) _

theorem bAt_eq (c : Dev nD) : bAt m c = m ((c : Thread nD τ).loc main_arg2) :=
  Memref.read_access_unit_zero (Elt F) main_arg2 (funext fun a => by fin_cases a <;> decide)
    (fun a => by fin_cases a <;> decide) _

attribute [local irreducible] xAt aAt bAt outAt

/-- What the run leaves in the result's array. -/
theorem finalA_out (c : Dev nD) : finalA m ρ c (3 : Fin 4) = outAt m c := by
  have h : (win0_3.blk (0 : Fin 1)).view.read (Elt F) (finalA m ρ c (3 : Fin 4)) = outAt m c := by
    unfold finalA
    rw [show cfg0.N = (t₀ : Fin cfg0.N).val + 1 from rfl, (dats m ρ 0 c).arrAt_succ (3 : Fin 4) t₀,
      if_pos (show (cfg0.win (3 : Fin 4)).flush t₀ = true by decide)]
    exact View.read_write_univ _ _
  exact (Memref.read_access_unit_zero (Elt F) main_v1 (funext fun a => by fin_cases a <;> decide)
    (fun a => by fin_cases a <;> decide) _).symm.trans h

end Cert.Exchange

end
-- ==== Proof.Reference.lean ====
/-
  The plain program's result with exact numbers, and that it is the sum of the four devices' partial products.
-/
module

public import proofs.«01_k».proof.Proof.Whole
public import proofs.«01_k».proof.Proof.Gen.ReferenceIdeal.Run
public import Idealize.ShloMosaic.Lib.StackMember
public import Idealize.ShloMosaic.Lib.IdealHost
public import Idealize.ShloMosaic.Lib.Layout

@[expose] public section

set_option maxRecDepth 16384

noncomputable section

namespace Cert.Exchange

open Idealize.ShloMosaic
open Idealize.ShloMosaic.ValueIdx
open scoped BigOperators

/-- The plain program's operations one after the other. -/
def plain (x : FVec Ideal ⟨2, ![768, 768]⟩ .bf16) (w : FVec Ideal ⟨2, ![768, 6144]⟩ .bf16)
    (v : FVec Ideal ⟨2, ![6144, 768]⟩ .bf16) : FVec Ideal ⟨2, ![768, 768]⟩ .f32 :=
  extf .f32 (truncf .bf16 (Host.dotGeneral (DotDims.plain 768 6144 768) none
    (maximumf (truncf .bf16 (Host.dotGeneral (DotDims.plain 768 768 6144) none x w : FVec Ideal ⟨2, ![768, 6144]⟩ .f32)
        Cert.ReferenceIdeal.Gen.bitsLt_bf16_f32)
      (broadcastInDim ⟨2, ![768, 6144]⟩ ![] Cert.ReferenceIdeal.Gen.bcast_S_S768x6144
        (constant (F := Ideal) Cert.ReferenceIdeal.S_ .bf16 0x0000#16))) v : FVec Ideal ⟨2, ![768, 768]⟩ .f32)
    Cert.ReferenceIdeal.Gen.bitsLt_bf16_f32) Cert.ReferenceIdeal.Gen.bitsLt_bf16_f32

theorem plain_apply (x : FVec Ideal ⟨2, ![768, 768]⟩ .bf16) (w : FVec Ideal ⟨2, ![768, 6144]⟩ .bf16)
    (v : FVec Ideal ⟨2, ![6144, 768]⟩ .bf16) (p q : Fin 768) : plain x w v (ix2 p q) = number x w v p q := by
  refine (StackMember.dotGeneral_plain_apply none _ v p q).trans (Finset.sum_congr rfl fun r _ => ?_)
  refine congrArg (· * v (ix2 r q)) (congrArg₂ max ?_ Ideal.ofBits_zero_bf16)
  exact StackMember.dotGeneral_plain_apply none x w p r

/-- A number of the whole product is the sum of the four blocks' numbers. -/
theorem number_blocks (x : FVec Ideal ⟨2, ![768, 768]⟩ .bf16) (w : FVec Ideal ⟨2, ![768, 6144]⟩ .bf16)
    (v : FVec Ideal ⟨2, ![6144, 768]⟩ .bf16) (p q : Fin 768) :
    number x w v p q = ∑ d : Fin 4, number x (Layout.block ⟨2, ![768, 1536]⟩ ⟨2, ![768, 6144]⟩ 1 4 d w)
      (Layout.block ⟨2, ![1536, 768]⟩ ⟨2, ![6144, 768]⟩ 0 4 d v) p q := by
  unfold number
  rw [← Equiv.sum_comp (finProdFinEquiv (m := 4) (n := 1536)), Fintype.sum_prod_type]
  refine Finset.sum_congr rfl fun d _ => Finset.sum_congr rfl fun r _ => ?_
  have hd (t : Fin 768) : w (ix2 t (finProdFinEquiv (d, r)))
      = Layout.block ⟨2, ![768, 1536]⟩ ⟨2, ![768, 6144]⟩ 1 4 d w (by decide) (ix2 t r) := by
    refine congrArg w (funext fun a => Fin.ext ?_)
    match a with
    | 0 => rfl
    | 1 =>
      show r.val + 1536 * d.val = d.val * 1536 + r.val
      omega
  have hr : v (ix2 (finProdFinEquiv (d, r)) q)
      = Layout.block ⟨2, ![1536, 768]⟩ ⟨2, ![6144, 768]⟩ 0 4 d v (by decide) (ix2 r q) := by
    refine congrArg v (funext fun a => Fin.ext ?_)
    match a with
    | 0 =>
      show r.val + 1536 * d.val = d.val * 1536 + r.val
      omega
    | 1 => rfl
  rw [hr]
  simp only [hd]

/-- The result on every device is the plain program's, when the devices hold the operand and their blocks of the
    weights. -/
theorem result_eq (m : (ℓ : Loc Cert.KernelIdeal.nD Cert.KernelIdeal.τ Cert.KernelIdeal.sig) → Buf (Elt Ideal) ℓ)
    (x : FVec Ideal ⟨2, ![768, 768]⟩ .bf16) (w : FVec Ideal ⟨2, ![768, 6144]⟩ .bf16)
    (v : FVec Ideal ⟨2, ![6144, 768]⟩ .bf16)
    (hx : ∀ d, xAt m d = x) (hw : ∀ d, aAt m d = Layout.block ⟨2, ![768, 1536]⟩ ⟨2, ![768, 6144]⟩ 1 4 d w)
    (hv : ∀ d, bAt m d = Layout.block ⟨2, ![1536, 768]⟩ ⟨2, ![6144, 768]⟩ 0 4 d v) (c : Dev Cert.KernelIdeal.nD) :
    outAt m c = plain x w v := by
  have h (p q : Fin 768) : total m (ix2 p q) = plain x w v (ix2 p q) := by
    refine Eq.trans ?_ ((plain_apply x w v p q).trans (number_blocks x w v p q)).symm
    unfold total share
    exact Finset.sum_congr rfl fun d _ => by rw [hx d, hw d, hv d]
  refine funext fun (y : (⟨2, ![768, 768]⟩ : Shape).Idx) => ?_
  obtain ⟨p, q, rfl⟩ : ∃ p q : Fin 768, y = ix2 p q := ⟨y 0, y 1, eq_ix2 y⟩
  exact (outAt_apply m c (ix2 p q)).trans (h p q)

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Reference
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Exchange

/-! ## The frames -/

/-- The kernel's frame, for any numbers. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread _ Cert.KernelIdeal.τ).loc Cert.KernelIdeal.main_arg0)
            = m ((c.tc : Thread _ Cert.KernelIdeal.τ).loc Cert.KernelIdeal.main_arg0)
          ∧ r.2.mem ((c.tc : Thread _ Cert.KernelIdeal.τ).loc Cert.KernelIdeal.main_arg1)
            = m ((c.tc : Thread _ Cert.KernelIdeal.τ).loc Cert.KernelIdeal.main_arg1)
          ∧ r.2.mem ((c.tc : Thread _ Cert.KernelIdeal.τ).loc Cert.KernelIdeal.main_arg2)
            = m ((c.tc : Thread _ Cert.KernelIdeal.τ).loc Cert.KernelIdeal.main_arg2))
        ∧ r.2.sem = fun _ => 0) :=
  (θ_run Cert.KernelIdeal.defs _ _).mono
    (fun _ h => ⟨fun c => ⟨(h.1 c (0 : Fin 4)).trans (finalA_in m ρ c 0 (by decide)),
      (h.1 c (1 : Fin 4)).trans (finalA_in m ρ c 1 (by decide)),
      (h.1 c (2 : Fin 4)).trans (finalA_in m ρ c 2 (by decide))⟩, h.2⟩)
    (run_main m ρ)

theorem frame_ideal : Cert.quiescent_KernelIdeal (hKernelIdeal := Cert.KernelIdeal.Gen.facts) :=
  fun m ρ _ => frame_any (F := Ideal) m ρ

/-- The kernel read with machine numbers has the same text. -/
theorem bodies_eq {F : FTy → Type} [FloatOps F] :
    Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

theorem defs_eq {F : FTy → Type} [FloatOps F] : Cert.Kernel.defs (F := F) = Cert.KernelIdeal.defs (F := F) :=
  congrArg (Pipeline.defs Cert.KernelIdeal.pcfgs) bodies_eq

theorem frame_kernel : Cert.quiescent_Kernel (hKernel := Cert.Kernel.Gen.facts) := fun m ρ _ => by
  have h := frame_any (F := Bits) m ρ
  rw [← defs_eq] at h
  exact h

theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-! ## The values -/

theorem algebraic : Cert.algebraic_KernelIdeal_ReferenceIdeal (hKernelIdeal := Cert.KernelIdeal.Gen.facts)
    (hReferenceIdeal := Cert.ReferenceIdeal.Gen.facts) := fun m ρ m' ρ' _ hm =>
  ⟨plain (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2)),
    (θ_run Cert.KernelIdeal.defs _ _).mono
      (fun _ h c => ⟨(h.1 c (3 : Fin 4)).trans ((finalA_out m ρ c).trans (result_eq m _ _ _
          (fun d => (xAt_eq m d).trans (hm d).1) (fun d => (aAt_eq m d).trans (hm d).2.1)
          (fun d => (bAt_eq m d).trans (hm d).2.2) c)),
        (h.1 c (0 : Fin 4)).trans (finalA_in m ρ c 0 (by decide)),
        (h.1 c (1 : Fin 4)).trans (finalA_in m ρ c 1 (by decide)),
        (h.1 c (2 : Fin 4)).trans (finalA_in m ρ c 2 (by decide))⟩)
      (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
